-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x64 : Shape := ⟨2, ![512, 64]⟩
abbrev S2048x2 : Shape := ⟨2, ![2048, 2]⟩
abbrev S8x512x1024 : Shape := ⟨3, ![8, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .f32) (main_arg1 : FVec F S512x64 .f32) (main_arg2 : IVec S2048x2 32) (main_arg3 : FVec F S8x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 64#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Pre_routed_ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .f32) (main_arg1 : FVec F S512x64 .f32) (main_arg2 : IVec S2048x2 32) (main_arg3 : FVec F S64x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 64#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Kernel.lean ====
abbrev S2048x512 : Shape := ⟨2, ![2048, 512]⟩
abbrev S512x64 : Shape := ⟨2, ![512, 64]⟩
abbrev S2048x2 : Shape := ⟨2, ![2048, 2]⟩
abbrev S8x512x1024 : Shape := ⟨3, ![8, 512, 1024]⟩
abbrev S2048x1024 : Shape := ⟨2, ![2048, 1024]⟩
abbrev S2048x8 : Shape := ⟨2, ![2048, 8]⟩
abbrev S1792x1024 : Shape := ⟨2, ![1792, 1024]⟩
abbrev S3x6 : Shape := ⟨2, ![3, 6]⟩
abbrev S2048x64 : Shape := ⟨2, ![2048, 64]⟩
abbrev S2048 : Shape := ⟨1, ![2048]⟩
abbrev S2048x1 : Shape := ⟨2, ![2048, 1]⟩
abbrev S352x512 : Shape := ⟨2, ![352, 512]⟩
abbrev S352x8 : Shape := ⟨2, ![352, 8]⟩
abbrev S352x1 : Shape := ⟨2, ![352, 1]⟩
abbrev S1x512x1024 : Shape := ⟨3, ![1, 512, 1024]⟩
abbrev S512x1024 : Shape := ⟨2, ![512, 1024]⟩
abbrev S352x1024 : Shape := ⟨2, ![352, 1024]⟩
abbrev S320x512 : Shape := ⟨2, ![320, 512]⟩
abbrev S320x8 : Shape := ⟨2, ![320, 8]⟩
abbrev S320x1 : Shape := ⟨2, ![320, 1]⟩
abbrev S320x1024 : Shape := ⟨2, ![320, 1024]⟩
abbrev S_ : Shape := ⟨0, ![]⟩
abbrev S1x1 : Shape := ⟨2, ![1, 1]⟩
abbrev S176x512 : Shape := ⟨2, ![176, 512]⟩
abbrev S176x8 : Shape := ⟨2, ![176, 8]⟩
abbrev S176x1 : Shape := ⟨2, ![176, 1]⟩
abbrev S176x1024 : Shape := ⟨2, ![176, 1024]⟩
abbrev S160x512 : Shape := ⟨2, ![160, 512]⟩
abbrev S160x8 : Shape := ⟨2, ![160, 8]⟩
abbrev S160x1 : Shape := ⟨2, ![160, 1]⟩
abbrev S160x1024 : Shape := ⟨2, ![160, 1024]⟩
abbrev S88x1024 : Shape := ⟨2, ![88, 1024]⟩
abbrev S80x1024 : Shape := ⟨2, ![80, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x2, .i32⟩
  | .hbm, ⟨3, _⟩ => ⟨S8x512x1024, .f32⟩
  | .hbm, ⟨4, _⟩ => ⟨S2048x1024, .f32⟩
  | .local _ .vmem, ⟨0, _⟩ => ⟨S2048x512, .f32⟩
  | .local _ .vmem, ⟨1, _⟩ => ⟨S512x64, .f32⟩
  | .local _ .vmem, ⟨2, _⟩ => ⟨S2048x2, .i32⟩
  | .local _ .vmem, ⟨3, _⟩ => ⟨S8x512x1024, .f32⟩
  | .local _ .vmem, ⟨4, _⟩ => ⟨S2048x1024, .f32⟩
  | .local _ .vmem, ⟨5, _⟩ => ⟨S2048x8, .f32⟩
  | .local _ .vmem, ⟨6, _⟩ => ⟨S2048x1024, .bf16⟩
  | .local _ .vmem, ⟨7, _⟩ => ⟨S1792x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_83 : BitVec 32 := 0#32
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let v206 : BitVec 32 := Scalar.subi c1_i32_81 v151
  let c352_i32_82 : BitVec 32 := 352#32
  let v207 : BitVec 32 := Scalar.muli v206 c352_i32_82
  let v208 : BitVec 32 := Scalar.addi c0_i32_83 v207
  let v209 : Index := Scalar.indexCast v208
  let c0_84 : Index := 0#32
  ![v209.toNat, 0]
def k0_off2 (d0 : Dev nD) : Fin 2 → Nat :=
  let c0_i32_83 : BitVec 32 := 0#32
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let v206 : BitVec 32 := Scalar.subi c1_i32_81 v151
  let c352_i32_82 : BitVec 32 := 352#32
  let v207 : BitVec 32 := Scalar.muli v206 c352_i32_82
  let v208 : BitVec 32 := Scalar.addi c0_i32_83 v207
  let v212 : Index := Scalar.indexCast v208
  let c0_85 : Index := 0#32
  ![v212.toNat, 0]
def k0_off3 (d0 : Dev nD) : Fin 2 → Nat :=
  let c0_i32_83 : BitVec 32 := 0#32
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let v206 : BitVec 32 := Scalar.subi c1_i32_81 v151
  let c352_i32_82 : BitVec 32 := 352#32
  let v207 : BitVec 32 := Scalar.muli v206 c352_i32_82
  let v208 : BitVec 32 := Scalar.addi c0_i32_83 v207
  let v270 : Index := Scalar.indexCast v208
  let c0_118 : Index := 0#32
  ![v270.toNat, 0]
def k0_off4 (d0 : Dev nD) : Fin 2 → Nat :=
  let c704_i32_121 : BitVec 32 := 704#32
  let c1_i32_119 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let v274 : BitVec 32 := Scalar.subi c1_i32_119 v157
  let c352_i32_120 : BitVec 32 := 352#32
  let v275 : BitVec 32 := Scalar.muli v274 c352_i32_120
  let v276 : BitVec 32 := Scalar.addi c704_i32_121 v275
  let v277 : Index := Scalar.indexCast v276
  let c0_122 : Index := 0#32
  ![v277.toNat, 0]
def k0_off5 (d0 : Dev nD) : Fin 2 → Nat :=
  let c704_i32_121 : BitVec 32 := 704#32
  let c1_i32_119 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let v274 : BitVec 32 := Scalar.subi c1_i32_119 v157
  let c352_i32_120 : BitVec 32 := 352#32
  let v275 : BitVec 32 := Scalar.muli v274 c352_i32_120
  let v276 : BitVec 32 := Scalar.addi c704_i32_121 v275
  let v280 : Index := Scalar.indexCast v276
  let c0_123 : Index := 0#32
  ![v280.toNat, 0]
def k0_off6 (d0 : Dev nD) : Fin 2 → Nat :=
  let c704_i32_121 : BitVec 32 := 704#32
  let c1_i32_119 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let v274 : BitVec 32 := Scalar.subi c1_i32_119 v157
  let c352_i32_120 : BitVec 32 := 352#32
  let v275 : BitVec 32 := Scalar.muli v274 c352_i32_120
  let v276 : BitVec 32 := Scalar.addi c704_i32_121 v275
  let v338 : Index := Scalar.indexCast v276
  let c0_156 : Index := 0#32
  ![v338.toNat, 0]
def k0_off7 (d0 : Dev nD) : Fin 2 → Nat :=
  let c1408_i32_159 : BitVec 32 := 1408#32
  let c1_i32_157 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let v342 : BitVec 32 := Scalar.subi c1_i32_157 v164
  let c320_i32_158 : BitVec 32 := 320#32
  let v343 : BitVec 32 := Scalar.muli v342 c320_i32_158
  let v344 : BitVec 32 := Scalar.addi c1408_i32_159 v343
  let v345 : Index := Scalar.indexCast v344
  let c0_160 : Index := 0#32
  ![v345.toNat, 0]
def k0_off8 (d0 : Dev nD) : Fin 2 → Nat :=
  let c1408_i32_159 : BitVec 32 := 1408#32
  let c1_i32_157 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let v342 : BitVec 32 := Scalar.subi c1_i32_157 v164
  let c320_i32_158 : BitVec 32 := 320#32
  let v343 : BitVec 32 := Scalar.muli v342 c320_i32_158
  let v344 : BitVec 32 := Scalar.addi c1408_i32_159 v343
  let v348 : Index := Scalar.indexCast v344
  let c0_161 : Index := 0#32
  ![v348.toNat, 0]
def k0_off9 (d0 : Dev nD) : Fin 2 → Nat :=
  let c1408_i32_159 : BitVec 32 := 1408#32
  let c1_i32_157 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let v342 : BitVec 32 := Scalar.subi c1_i32_157 v164
  let c320_i32_158 : BitVec 32 := 320#32
  let v343 : BitVec 32 := Scalar.muli v342 c320_i32_158
  let v344 : BitVec 32 := Scalar.addi c1408_i32_159 v343
  let v406 : Index := Scalar.indexCast v344
  let c0_194 : Index := 0#32
  ![v406.toNat, 0]
def k0_dev1 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v411 : BitVec 32 := Scalar.xori v2 c1_i32_195
  let c1_i32_197 : BitVec 32 := 1#32
  let v412 : BitVec 32 := Scalar.muli v411 c1_i32_197
  let v413 : BitVec 32 := Scalar.addi c0_i32_198 v412
  v413.toNat
def k0_dev2 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_199 : BitVec 32 := 3#32
  let v414 : BitVec 32 := Scalar.xori v2 c3_i32_199
  let c1_i32_201 : BitVec 32 := 1#32
  let v415 : BitVec 32 := Scalar.muli v414 c1_i32_201
  let v416 : BitVec 32 := Scalar.addi c0_i32_202 v415
  v416.toNat
def k0_dev3 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_203 : BitVec 32 := 4#32
  let v417 : BitVec 32 := Scalar.xori v2 c4_i32_203
  let c1_i32_205 : BitVec 32 := 1#32
  let v418 : BitVec 32 := Scalar.muli v417 c1_i32_205
  let v419 : BitVec 32 := Scalar.addi c0_i32_206 v418
  v419.toNat
def k0_off10 (d0 : Dev nD) : Fin 2 → Nat :=
  let c0_i32_210 : BitVec 32 := 0#32
  let c1_i32_208 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let v420 : BitVec 32 := Scalar.subi c1_i32_208 v151
  let c352_i32_209 : BitVec 32 := 352#32
  let v421 : BitVec 32 := Scalar.muli v420 c352_i32_209
  let v422 : BitVec 32 := Scalar.addi c0_i32_210 v421
  let c0_i32_220 : BitVec 32 := 0#32
  ![v422.toNat, 0]
def k0_dev4 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_211 : BitVec 32 := 1#32
  let v423 : BitVec 32 := Scalar.xori v2 c1_i32_211
  let c1_i32_216 : BitVec 32 := 1#32
  let v424 : BitVec 32 := Scalar.muli v423 c1_i32_216
  let v425 : BitVec 32 := Scalar.addi c0_i32_217 v424
  v425.toNat
def k0_off11 (d0 : Dev nD) : Fin 2 → Nat :=
  let c704_i32_223 : BitVec 32 := 704#32
  let c1_i32_221 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let v432 : BitVec 32 := Scalar.subi c1_i32_221 v157
  let c352_i32_222 : BitVec 32 := 352#32
  let v433 : BitVec 32 := Scalar.muli v432 c352_i32_222
  let v434 : BitVec 32 := Scalar.addi c704_i32_223 v433
  let c0_i32_232 : BitVec 32 := 0#32
  ![v434.toNat, 0]
def k0_dev5 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_224 : BitVec 32 := 3#32
  let v435 : BitVec 32 := Scalar.xori v2 c3_i32_224
  let c1_i32_229 : BitVec 32 := 1#32
  let v436 : BitVec 32 := Scalar.muli v435 c1_i32_229
  let v437 : BitVec 32 := Scalar.addi c0_i32_230 v436
  v437.toNat
def k0_off12 (d0 : Dev nD) : Fin 2 → Nat :=
  let c1408_i32_235 : BitVec 32 := 1408#32
  let c1_i32_233 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let v444 : BitVec 32 := Scalar.subi c1_i32_233 v164
  let c320_i32_234 : BitVec 32 := 320#32
  let v445 : BitVec 32 := Scalar.muli v444 c320_i32_234
  let v446 : BitVec 32 := Scalar.addi c1408_i32_235 v445
  let c0_i32_244 : BitVec 32 := 0#32
  ![v446.toNat, 0]
def k0_dev6 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_236 : BitVec 32 := 4#32
  let v447 : BitVec 32 := Scalar.xori v2 c4_i32_236
  let c1_i32_241 : BitVec 32 := 1#32
  let v448 : BitVec 32 := Scalar.muli v447 c1_i32_241
  let v449 : BitVec 32 := Scalar.addi c0_i32_242 v448
  v449.toNat
def k0_off13 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_69 : BitVec 32 := 1#32
  let c1_i32_49 : BitVec 32 := 1#32
  let v152 : BitVec 32 := Scalar.shrsi v2 c1_i32_49
  let c1_i32_50 : BitVec 32 := 1#32
  let v153 : BitVec 32 := Scalar.andi v152 c1_i32_50
  let v188 : BitVec 32 := Scalar.subi c1_i32_69 v153
  let c176_i32_70 : BitVec 32 := 176#32
  let v189 : BitVec 32 := Scalar.muli v188 c176_i32_70
  let v190 : BitVec 32 := Scalar.addi v171 v189
  let v456 : Index := Scalar.indexCast v190
  let c0_245 : Index := 0#32
  ![v456.toNat, 0]
def k0_off14 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_69 : BitVec 32 := 1#32
  let c1_i32_49 : BitVec 32 := 1#32
  let v152 : BitVec 32 := Scalar.shrsi v2 c1_i32_49
  let c1_i32_50 : BitVec 32 := 1#32
  let v153 : BitVec 32 := Scalar.andi v152 c1_i32_50
  let v188 : BitVec 32 := Scalar.subi c1_i32_69 v153
  let c176_i32_70 : BitVec 32 := 176#32
  let v189 : BitVec 32 := Scalar.muli v188 c176_i32_70
  let v190 : BitVec 32 := Scalar.addi v171 v189
  let v459 : Index := Scalar.indexCast v190
  let c0_246 : Index := 0#32
  ![v459.toNat, 0]
def k0_off15 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_69 : BitVec 32 := 1#32
  let c1_i32_49 : BitVec 32 := 1#32
  let v152 : BitVec 32 := Scalar.shrsi v2 c1_i32_49
  let c1_i32_50 : BitVec 32 := 1#32
  let v153 : BitVec 32 := Scalar.andi v152 c1_i32_50
  let v188 : BitVec 32 := Scalar.subi c1_i32_69 v153
  let c176_i32_70 : BitVec 32 := 176#32
  let v189 : BitVec 32 := Scalar.muli v188 c176_i32_70
  let v190 : BitVec 32 := Scalar.addi v171 v189
  let v517 : Index := Scalar.indexCast v190
  let c0_279 : Index := 0#32
  ![v517.toNat, 0]
def k0_off16 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c1_i32_71 : BitVec 32 := 1#32
  let c2_i32_55 : BitVec 32 := 2#32
  let v158 : BitVec 32 := Scalar.shrsi v2 c2_i32_55
  let c1_i32_56 : BitVec 32 := 1#32
  let v159 : BitVec 32 := Scalar.andi v158 c1_i32_56
  let v191 : BitVec 32 := Scalar.subi c1_i32_71 v159
  let c176_i32_72 : BitVec 32 := 176#32
  let v192 : BitVec 32 := Scalar.muli v191 c176_i32_72
  let v193 : BitVec 32 := Scalar.addi v173 v192
  let v521 : Index := Scalar.indexCast v193
  let c0_280 : Index := 0#32
  ![v521.toNat, 0]
def k0_off17 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c1_i32_71 : BitVec 32 := 1#32
  let c2_i32_55 : BitVec 32 := 2#32
  let v158 : BitVec 32 := Scalar.shrsi v2 c2_i32_55
  let c1_i32_56 : BitVec 32 := 1#32
  let v159 : BitVec 32 := Scalar.andi v158 c1_i32_56
  let v191 : BitVec 32 := Scalar.subi c1_i32_71 v159
  let c176_i32_72 : BitVec 32 := 176#32
  let v192 : BitVec 32 := Scalar.muli v191 c176_i32_72
  let v193 : BitVec 32 := Scalar.addi v173 v192
  let v524 : Index := Scalar.indexCast v193
  let c0_281 : Index := 0#32
  ![v524.toNat, 0]
def k0_off18 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c1_i32_71 : BitVec 32 := 1#32
  let c2_i32_55 : BitVec 32 := 2#32
  let v158 : BitVec 32 := Scalar.shrsi v2 c2_i32_55
  let c1_i32_56 : BitVec 32 := 1#32
  let v159 : BitVec 32 := Scalar.andi v158 c1_i32_56
  let v191 : BitVec 32 := Scalar.subi c1_i32_71 v159
  let c176_i32_72 : BitVec 32 := 176#32
  let v192 : BitVec 32 := Scalar.muli v191 c176_i32_72
  let v193 : BitVec 32 := Scalar.addi v173 v192
  let v582 : Index := Scalar.indexCast v193
  let c0_314 : Index := 0#32
  ![v582.toNat, 0]
def k0_off19 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_73 : BitVec 32 := 1#32
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let v194 : BitVec 32 := Scalar.subi c1_i32_73 v167
  let c160_i32_74 : BitVec 32 := 160#32
  let v195 : BitVec 32 := Scalar.muli v194 c160_i32_74
  let v196 : BitVec 32 := Scalar.addi v175 v195
  let v586 : Index := Scalar.indexCast v196
  let c0_315 : Index := 0#32
  ![v586.toNat, 0]
def k0_off20 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_73 : BitVec 32 := 1#32
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let v194 : BitVec 32 := Scalar.subi c1_i32_73 v167
  let c160_i32_74 : BitVec 32 := 160#32
  let v195 : BitVec 32 := Scalar.muli v194 c160_i32_74
  let v196 : BitVec 32 := Scalar.addi v175 v195
  let v589 : Index := Scalar.indexCast v196
  let c0_316 : Index := 0#32
  ![v589.toNat, 0]
def k0_off21 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_73 : BitVec 32 := 1#32
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let v194 : BitVec 32 := Scalar.subi c1_i32_73 v167
  let c160_i32_74 : BitVec 32 := 160#32
  let v195 : BitVec 32 := Scalar.muli v194 c160_i32_74
  let v196 : BitVec 32 := Scalar.addi v175 v195
  let v647 : Index := Scalar.indexCast v196
  let c0_349 : Index := 0#32
  ![v647.toNat, 0]
def k0_off22 (d0 : Dev nD) : Fin 2 → Nat :=
  let c0_i32_367 : BitVec 32 := 0#32
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_69 : BitVec 32 := 1#32
  let c1_i32_49 : BitVec 32 := 1#32
  let v152 : BitVec 32 := Scalar.shrsi v2 c1_i32_49
  let c1_i32_50 : BitVec 32 := 1#32
  let v153 : BitVec 32 := Scalar.andi v152 c1_i32_50
  let v188 : BitVec 32 := Scalar.subi c1_i32_69 v153
  let c176_i32_70 : BitVec 32 := 176#32
  let v189 : BitVec 32 := Scalar.muli v188 c176_i32_70
  let v190 : BitVec 32 := Scalar.addi v171 v189
  let v661 : BitVec 32 := Scalar.subi v190 v171
  let v662 : BitVec 32 := Scalar.addi c0_i32_367 v661
  let v666 : Index := Scalar.indexCast v662
  let c0_369 : Index := 0#32
  ![v666.toNat, 0]
def k0_off23 (d0 : Dev nD) : Fin 2 → Nat :=
  let c616_i32_388 : BitVec 32 := 616#32
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c1_i32_71 : BitVec 32 := 1#32
  let c2_i32_55 : BitVec 32 := 2#32
  let v158 : BitVec 32 := Scalar.shrsi v2 c2_i32_55
  let c1_i32_56 : BitVec 32 := 1#32
  let v159 : BitVec 32 := Scalar.andi v158 c1_i32_56
  let v191 : BitVec 32 := Scalar.subi c1_i32_71 v159
  let c176_i32_72 : BitVec 32 := 176#32
  let v192 : BitVec 32 := Scalar.muli v191 c176_i32_72
  let v193 : BitVec 32 := Scalar.addi v173 v192
  let v685 : BitVec 32 := Scalar.subi v193 v173
  let v686 : BitVec 32 := Scalar.addi c616_i32_388 v685
  let v690 : Index := Scalar.indexCast v686
  let c0_390 : Index := 0#32
  ![v690.toNat, 0]
def k0_off24 (d0 : Dev nD) : Fin 2 → Nat :=
  let c1232_i32_409 : BitVec 32 := 1232#32
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_73 : BitVec 32 := 1#32
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let v194 : BitVec 32 := Scalar.subi c1_i32_73 v167
  let c160_i32_74 : BitVec 32 := 160#32
  let v195 : BitVec 32 := Scalar.muli v194 c160_i32_74
  let v196 : BitVec 32 := Scalar.addi v175 v195
  let v709 : BitVec 32 := Scalar.subi v196 v175
  let v710 : BitVec 32 := Scalar.addi c1232_i32_409 v709
  let v714 : Index := Scalar.indexCast v710
  let c0_411 : Index := 0#32
  ![v714.toNat, 0]
def k0_off25 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_69 : BitVec 32 := 1#32
  let c1_i32_49 : BitVec 32 := 1#32
  let v152 : BitVec 32 := Scalar.shrsi v2 c1_i32_49
  let c1_i32_50 : BitVec 32 := 1#32
  let v153 : BitVec 32 := Scalar.andi v152 c1_i32_50
  let v188 : BitVec 32 := Scalar.subi c1_i32_69 v153
  let c176_i32_70 : BitVec 32 := 176#32
  let v189 : BitVec 32 := Scalar.muli v188 c176_i32_70
  let v190 : BitVec 32 := Scalar.addi v171 v189
  let c0_i32_422 : BitVec 32 := 0#32
  ![v190.toNat, 0]
def k0_dev7 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_413 : BitVec 32 := 3#32
  let v723 : BitVec 32 := Scalar.xori v2 c3_i32_413
  let c1_i32_418 : BitVec 32 := 1#32
  let v724 : BitVec 32 := Scalar.muli v723 c1_i32_418
  let v725 : BitVec 32 := Scalar.addi c0_i32_419 v724
  v725.toNat
def k0_off26 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c1_i32_71 : BitVec 32 := 1#32
  let c2_i32_55 : BitVec 32 := 2#32
  let v158 : BitVec 32 := Scalar.shrsi v2 c2_i32_55
  let c1_i32_56 : BitVec 32 := 1#32
  let v159 : BitVec 32 := Scalar.andi v158 c1_i32_56
  let v191 : BitVec 32 := Scalar.subi c1_i32_71 v159
  let c176_i32_72 : BitVec 32 := 176#32
  let v192 : BitVec 32 := Scalar.muli v191 c176_i32_72
  let v193 : BitVec 32 := Scalar.addi v173 v192
  let c0_i32_431 : BitVec 32 := 0#32
  ![v193.toNat, 0]
def k0_dev8 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_423 : BitVec 32 := 4#32
  let v732 : BitVec 32 := Scalar.xori v2 c4_i32_423
  let c1_i32_428 : BitVec 32 := 1#32
  let v733 : BitVec 32 := Scalar.muli v732 c1_i32_428
  let v734 : BitVec 32 := Scalar.addi c0_i32_429 v733
  v734.toNat
def k0_off27 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_73 : BitVec 32 := 1#32
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let v194 : BitVec 32 := Scalar.subi c1_i32_73 v167
  let c160_i32_74 : BitVec 32 := 160#32
  let v195 : BitVec 32 := Scalar.muli v194 c160_i32_74
  let v196 : BitVec 32 := Scalar.addi v175 v195
  let c0_i32_440 : BitVec 32 := 0#32
  ![v196.toNat, 0]
def k0_dev9 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_432 : BitVec 32 := 1#32
  let v741 : BitVec 32 := Scalar.xori v2 c1_i32_432
  let c1_i32_437 : BitVec 32 := 1#32
  let v742 : BitVec 32 := Scalar.muli v741 c1_i32_437
  let v743 : BitVec 32 := Scalar.addi c0_i32_438 v742
  v743.toNat
def k0_off28 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_49 : BitVec 32 := 1#32
  let v152 : BitVec 32 := Scalar.shrsi v2 c1_i32_49
  let c1_i32_50 : BitVec 32 := 1#32
  let v153 : BitVec 32 := Scalar.andi v152 c1_i32_50
  let c176_i32 : BitVec 32 := 176#32
  let v176 : BitVec 32 := Scalar.muli v153 c176_i32
  let v177 : BitVec 32 := Scalar.addi v171 v176
  let v750 : Index := Scalar.indexCast v177
  let c0_441 : Index := 0#32
  ![v750.toNat, 0]
def k0_off29 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_49 : BitVec 32 := 1#32
  let v152 : BitVec 32 := Scalar.shrsi v2 c1_i32_49
  let c1_i32_50 : BitVec 32 := 1#32
  let v153 : BitVec 32 := Scalar.andi v152 c1_i32_50
  let c176_i32 : BitVec 32 := 176#32
  let v176 : BitVec 32 := Scalar.muli v153 c176_i32
  let v177 : BitVec 32 := Scalar.addi v171 v176
  let v753 : Index := Scalar.indexCast v177
  let c0_442 : Index := 0#32
  ![v753.toNat, 0]
def k0_off30 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_49 : BitVec 32 := 1#32
  let v152 : BitVec 32 := Scalar.shrsi v2 c1_i32_49
  let c1_i32_50 : BitVec 32 := 1#32
  let v153 : BitVec 32 := Scalar.andi v152 c1_i32_50
  let c176_i32 : BitVec 32 := 176#32
  let v176 : BitVec 32 := Scalar.muli v153 c176_i32
  let v177 : BitVec 32 := Scalar.addi v171 v176
  let v811 : Index := Scalar.indexCast v177
  let c0_475 : Index := 0#32
  ![v811.toNat, 0]
def k0_off31 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c2_i32_55 : BitVec 32 := 2#32
  let v158 : BitVec 32 := Scalar.shrsi v2 c2_i32_55
  let c1_i32_56 : BitVec 32 := 1#32
  let v159 : BitVec 32 := Scalar.andi v158 c1_i32_56
  let c176_i32_67 : BitVec 32 := 176#32
  let v178 : BitVec 32 := Scalar.muli v159 c176_i32_67
  let v179 : BitVec 32 := Scalar.addi v173 v178
  let v815 : Index := Scalar.indexCast v179
  let c0_476 : Index := 0#32
  ![v815.toNat, 0]
def k0_off32 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c2_i32_55 : BitVec 32 := 2#32
  let v158 : BitVec 32 := Scalar.shrsi v2 c2_i32_55
  let c1_i32_56 : BitVec 32 := 1#32
  let v159 : BitVec 32 := Scalar.andi v158 c1_i32_56
  let c176_i32_67 : BitVec 32 := 176#32
  let v178 : BitVec 32 := Scalar.muli v159 c176_i32_67
  let v179 : BitVec 32 := Scalar.addi v173 v178
  let v818 : Index := Scalar.indexCast v179
  let c0_477 : Index := 0#32
  ![v818.toNat, 0]
def k0_off33 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c2_i32_55 : BitVec 32 := 2#32
  let v158 : BitVec 32 := Scalar.shrsi v2 c2_i32_55
  let c1_i32_56 : BitVec 32 := 1#32
  let v159 : BitVec 32 := Scalar.andi v158 c1_i32_56
  let c176_i32_67 : BitVec 32 := 176#32
  let v178 : BitVec 32 := Scalar.muli v159 c176_i32_67
  let v179 : BitVec 32 := Scalar.addi v173 v178
  let v876 : Index := Scalar.indexCast v179
  let c0_510 : Index := 0#32
  ![v876.toNat, 0]
def k0_off34 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let c160_i32 : BitVec 32 := 160#32
  let v180 : BitVec 32 := Scalar.muli v167 c160_i32
  let v181 : BitVec 32 := Scalar.addi v175 v180
  let v880 : Index := Scalar.indexCast v181
  let c0_511 : Index := 0#32
  ![v880.toNat, 0]
def k0_off35 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let c160_i32 : BitVec 32 := 160#32
  let v180 : BitVec 32 := Scalar.muli v167 c160_i32
  let v181 : BitVec 32 := Scalar.addi v175 v180
  let v883 : Index := Scalar.indexCast v181
  let c0_512 : Index := 0#32
  ![v883.toNat, 0]
def k0_off36 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let c160_i32 : BitVec 32 := 160#32
  let v180 : BitVec 32 := Scalar.muli v167 c160_i32
  let v181 : BitVec 32 := Scalar.addi v175 v180
  let v941 : Index := Scalar.indexCast v181
  let c0_545 : Index := 0#32
  ![v941.toNat, 0]
def k0_off37 (d0 : Dev nD) : Fin 2 → Nat :=
  let c0_i32_546 : BitVec 32 := 0#32
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_49 : BitVec 32 := 1#32
  let v152 : BitVec 32 := Scalar.shrsi v2 c1_i32_49
  let c1_i32_50 : BitVec 32 := 1#32
  let v153 : BitVec 32 := Scalar.andi v152 c1_i32_50
  let c176_i32 : BitVec 32 := 176#32
  let v176 : BitVec 32 := Scalar.muli v153 c176_i32
  let v177 : BitVec 32 := Scalar.addi v171 v176
  let v945 : BitVec 32 := Scalar.subi v177 v171
  let v946 : BitVec 32 := Scalar.addi c0_i32_546 v945
  let v950 : Index := Scalar.indexCast v946
  let c0_548 : Index := 0#32
  ![v950.toNat, 0]
def k0_off38 (d0 : Dev nD) : Fin 2 → Nat :=
  let c616_i32_550 : BitVec 32 := 616#32
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c2_i32_55 : BitVec 32 := 2#32
  let v158 : BitVec 32 := Scalar.shrsi v2 c2_i32_55
  let c1_i32_56 : BitVec 32 := 1#32
  let v159 : BitVec 32 := Scalar.andi v158 c1_i32_56
  let c176_i32_67 : BitVec 32 := 176#32
  let v178 : BitVec 32 := Scalar.muli v159 c176_i32_67
  let v179 : BitVec 32 := Scalar.addi v173 v178
  let v959 : BitVec 32 := Scalar.subi v179 v173
  let v960 : BitVec 32 := Scalar.addi c616_i32_550 v959
  let v964 : Index := Scalar.indexCast v960
  let c0_552 : Index := 0#32
  ![v964.toNat, 0]
def k0_off39 (d0 : Dev nD) : Fin 2 → Nat :=
  let c1232_i32_554 : BitVec 32 := 1232#32
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let c160_i32 : BitVec 32 := 160#32
  let v180 : BitVec 32 := Scalar.muli v167 c160_i32
  let v181 : BitVec 32 := Scalar.addi v175 v180
  let v973 : BitVec 32 := Scalar.subi v181 v175
  let v974 : BitVec 32 := Scalar.addi c1232_i32_554 v973
  let v978 : Index := Scalar.indexCast v974
  let c0_556 : Index := 0#32
  ![v978.toNat, 0]
def k0_off40 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_49 : BitVec 32 := 1#32
  let v152 : BitVec 32 := Scalar.shrsi v2 c1_i32_49
  let c1_i32_50 : BitVec 32 := 1#32
  let v153 : BitVec 32 := Scalar.andi v152 c1_i32_50
  let c176_i32 : BitVec 32 := 176#32
  let v176 : BitVec 32 := Scalar.muli v153 c176_i32
  let v177 : BitVec 32 := Scalar.addi v171 v176
  let c1_i32_75 : BitVec 32 := 1#32
  let c2_i32_51 : BitVec 32 := 2#32
  let v154 : BitVec 32 := Scalar.shrsi v2 c2_i32_51
  let c1_i32_52 : BitVec 32 := 1#32
  let v155 : BitVec 32 := Scalar.andi v154 c1_i32_52
  let v197 : BitVec 32 := Scalar.subi c1_i32_75 v155
  let c88_i32_76 : BitVec 32 := 88#32
  let v198 : BitVec 32 := Scalar.muli v197 c88_i32_76
  let v199 : BitVec 32 := Scalar.addi v177 v198
  let v999 : Index := Scalar.indexCast v199
  let c0_576 : Index := 0#32
  ![v999.toNat, 0]
def k0_off41 (d0 : Dev nD) : Fin 2 → Nat :=
  let c352_i32_575 : BitVec 32 := 352#32
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_49 : BitVec 32 := 1#32
  let v152 : BitVec 32 := Scalar.shrsi v2 c1_i32_49
  let c1_i32_50 : BitVec 32 := 1#32
  let v153 : BitVec 32 := Scalar.andi v152 c1_i32_50
  let c176_i32 : BitVec 32 := 176#32
  let v176 : BitVec 32 := Scalar.muli v153 c176_i32
  let v177 : BitVec 32 := Scalar.addi v171 v176
  let c1_i32_75 : BitVec 32 := 1#32
  let c2_i32_51 : BitVec 32 := 2#32
  let v154 : BitVec 32 := Scalar.shrsi v2 c2_i32_51
  let c1_i32_52 : BitVec 32 := 1#32
  let v155 : BitVec 32 := Scalar.andi v154 c1_i32_52
  let v197 : BitVec 32 := Scalar.subi c1_i32_75 v155
  let c88_i32_76 : BitVec 32 := 88#32
  let v198 : BitVec 32 := Scalar.muli v197 c88_i32_76
  let v199 : BitVec 32 := Scalar.addi v177 v198
  let v997 : BitVec 32 := Scalar.subi v199 v177
  let v998 : BitVec 32 := Scalar.addi c352_i32_575 v997
  let v1002 : Index := Scalar.indexCast v998
  let c0_577 : Index := 0#32
  ![v1002.toNat, 0]
def k0_off42 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c2_i32_55 : BitVec 32 := 2#32
  let v158 : BitVec 32 := Scalar.shrsi v2 c2_i32_55
  let c1_i32_56 : BitVec 32 := 1#32
  let v159 : BitVec 32 := Scalar.andi v158 c1_i32_56
  let c176_i32_67 : BitVec 32 := 176#32
  let v178 : BitVec 32 := Scalar.muli v159 c176_i32_67
  let v179 : BitVec 32 := Scalar.addi v173 v178
  let c1_i32_77 : BitVec 32 := 1#32
  let c1_i32_57 : BitVec 32 := 1#32
  let v160 : BitVec 32 := Scalar.shrsi v2 c1_i32_57
  let v161 : BitVec 32 := Scalar.xori v2 v160
  let c1_i32_58 : BitVec 32 := 1#32
  let v162 : BitVec 32 := Scalar.andi v161 c1_i32_58
  let v200 : BitVec 32 := Scalar.subi c1_i32_77 v162
  let c88_i32_78 : BitVec 32 := 88#32
  let v201 : BitVec 32 := Scalar.muli v200 c88_i32_78
  let v202 : BitVec 32 := Scalar.addi v179 v201
  let v1023 : Index := Scalar.indexCast v202
  let c0_597 : Index := 0#32
  ![v1023.toNat, 0]
def k0_off43 (d0 : Dev nD) : Fin 2 → Nat :=
  let c968_i32_596 : BitVec 32 := 968#32
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c2_i32_55 : BitVec 32 := 2#32
  let v158 : BitVec 32 := Scalar.shrsi v2 c2_i32_55
  let c1_i32_56 : BitVec 32 := 1#32
  let v159 : BitVec 32 := Scalar.andi v158 c1_i32_56
  let c176_i32_67 : BitVec 32 := 176#32
  let v178 : BitVec 32 := Scalar.muli v159 c176_i32_67
  let v179 : BitVec 32 := Scalar.addi v173 v178
  let c1_i32_77 : BitVec 32 := 1#32
  let c1_i32_57 : BitVec 32 := 1#32
  let v160 : BitVec 32 := Scalar.shrsi v2 c1_i32_57
  let v161 : BitVec 32 := Scalar.xori v2 v160
  let c1_i32_58 : BitVec 32 := 1#32
  let v162 : BitVec 32 := Scalar.andi v161 c1_i32_58
  let v200 : BitVec 32 := Scalar.subi c1_i32_77 v162
  let c88_i32_78 : BitVec 32 := 88#32
  let v201 : BitVec 32 := Scalar.muli v200 c88_i32_78
  let v202 : BitVec 32 := Scalar.addi v179 v201
  let v1021 : BitVec 32 := Scalar.subi v202 v179
  let v1022 : BitVec 32 := Scalar.addi c968_i32_596 v1021
  let v1026 : Index := Scalar.indexCast v1022
  let c0_598 : Index := 0#32
  ![v1026.toNat, 0]
def k0_off44 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let c160_i32 : BitVec 32 := 160#32
  let v180 : BitVec 32 := Scalar.muli v167 c160_i32
  let v181 : BitVec 32 := Scalar.addi v175 v180
  let c1_i32_79 : BitVec 32 := 1#32
  let c1_i32_63 : BitVec 32 := 1#32
  let v168 : BitVec 32 := Scalar.shrsi v2 c1_i32_63
  let c1_i32_64 : BitVec 32 := 1#32
  let v169 : BitVec 32 := Scalar.andi v168 c1_i32_64
  let v203 : BitVec 32 := Scalar.subi c1_i32_79 v169
  let c80_i32_80 : BitVec 32 := 80#32
  let v204 : BitVec 32 := Scalar.muli v203 c80_i32_80
  let v205 : BitVec 32 := Scalar.addi v181 v204
  let v1047 : Index := Scalar.indexCast v205
  let c0_618 : Index := 0#32
  ![v1047.toNat, 0]
def k0_off45 (d0 : Dev nD) : Fin 2 → Nat :=
  let c1552_i32_617 : BitVec 32 := 1552#32
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let c160_i32 : BitVec 32 := 160#32
  let v180 : BitVec 32 := Scalar.muli v167 c160_i32
  let v181 : BitVec 32 := Scalar.addi v175 v180
  let c1_i32_79 : BitVec 32 := 1#32
  let c1_i32_63 : BitVec 32 := 1#32
  let v168 : BitVec 32 := Scalar.shrsi v2 c1_i32_63
  let c1_i32_64 : BitVec 32 := 1#32
  let v169 : BitVec 32 := Scalar.andi v168 c1_i32_64
  let v203 : BitVec 32 := Scalar.subi c1_i32_79 v169
  let c80_i32_80 : BitVec 32 := 80#32
  let v204 : BitVec 32 := Scalar.muli v203 c80_i32_80
  let v205 : BitVec 32 := Scalar.addi v181 v204
  let v1045 : BitVec 32 := Scalar.subi v205 v181
  let v1046 : BitVec 32 := Scalar.addi c1552_i32_617 v1045
  let v1050 : Index := Scalar.indexCast v1046
  let c0_619 : Index := 0#32
  ![v1050.toNat, 0]
def k0_off46 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_49 : BitVec 32 := 1#32
  let v152 : BitVec 32 := Scalar.shrsi v2 c1_i32_49
  let c1_i32_50 : BitVec 32 := 1#32
  let v153 : BitVec 32 := Scalar.andi v152 c1_i32_50
  let c176_i32 : BitVec 32 := 176#32
  let v176 : BitVec 32 := Scalar.muli v153 c176_i32
  let v177 : BitVec 32 := Scalar.addi v171 v176
  let c1_i32_75 : BitVec 32 := 1#32
  let c2_i32_51 : BitVec 32 := 2#32
  let v154 : BitVec 32 := Scalar.shrsi v2 c2_i32_51
  let c1_i32_52 : BitVec 32 := 1#32
  let v155 : BitVec 32 := Scalar.andi v154 c1_i32_52
  let v197 : BitVec 32 := Scalar.subi c1_i32_75 v155
  let c88_i32_76 : BitVec 32 := 88#32
  let v198 : BitVec 32 := Scalar.muli v197 c88_i32_76
  let v199 : BitVec 32 := Scalar.addi v177 v198
  let c0_i32_629 : BitVec 32 := 0#32
  ![v199.toNat, 0]
def k0_dev10 (d0 : Dev nD) : Nat :=
  let c0_i32_627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_621 : BitVec 32 := 4#32
  let v1059 : BitVec 32 := Scalar.xori v2 c4_i32_621
  let c1_i32_626 : BitVec 32 := 1#32
  let v1060 : BitVec 32 := Scalar.muli v1059 c1_i32_626
  let v1061 : BitVec 32 := Scalar.addi c0_i32_627 v1060
  v1061.toNat
def k0_off47 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c2_i32_55 : BitVec 32 := 2#32
  let v158 : BitVec 32 := Scalar.shrsi v2 c2_i32_55
  let c1_i32_56 : BitVec 32 := 1#32
  let v159 : BitVec 32 := Scalar.andi v158 c1_i32_56
  let c176_i32_67 : BitVec 32 := 176#32
  let v178 : BitVec 32 := Scalar.muli v159 c176_i32_67
  let v179 : BitVec 32 := Scalar.addi v173 v178
  let c1_i32_77 : BitVec 32 := 1#32
  let c1_i32_57 : BitVec 32 := 1#32
  let v160 : BitVec 32 := Scalar.shrsi v2 c1_i32_57
  let v161 : BitVec 32 := Scalar.xori v2 v160
  let c1_i32_58 : BitVec 32 := 1#32
  let v162 : BitVec 32 := Scalar.andi v161 c1_i32_58
  let v200 : BitVec 32 := Scalar.subi c1_i32_77 v162
  let c88_i32_78 : BitVec 32 := 88#32
  let v201 : BitVec 32 := Scalar.muli v200 c88_i32_78
  let v202 : BitVec 32 := Scalar.addi v179 v201
  let c0_i32_638 : BitVec 32 := 0#32
  ![v202.toNat, 0]
def k0_dev11 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_630 : BitVec 32 := 1#32
  let v1068 : BitVec 32 := Scalar.xori v2 c1_i32_630
  let c1_i32_635 : BitVec 32 := 1#32
  let v1069 : BitVec 32 := Scalar.muli v1068 c1_i32_635
  let v1070 : BitVec 32 := Scalar.addi c0_i32_636 v1069
  v1070.toNat
def k0_off48 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let c160_i32 : BitVec 32 := 160#32
  let v180 : BitVec 32 := Scalar.muli v167 c160_i32
  let v181 : BitVec 32 := Scalar.addi v175 v180
  let c1_i32_79 : BitVec 32 := 1#32
  let c1_i32_63 : BitVec 32 := 1#32
  let v168 : BitVec 32 := Scalar.shrsi v2 c1_i32_63
  let c1_i32_64 : BitVec 32 := 1#32
  let v169 : BitVec 32 := Scalar.andi v168 c1_i32_64
  let v203 : BitVec 32 := Scalar.subi c1_i32_79 v169
  let c80_i32_80 : BitVec 32 := 80#32
  let v204 : BitVec 32 := Scalar.muli v203 c80_i32_80
  let v205 : BitVec 32 := Scalar.addi v181 v204
  let c0_i32_647 : BitVec 32 := 0#32
  ![v205.toNat, 0]
def k0_dev12 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_639 : BitVec 32 := 3#32
  let v1077 : BitVec 32 := Scalar.xori v2 c3_i32_639
  let c1_i32_644 : BitVec 32 := 1#32
  let v1078 : BitVec 32 := Scalar.muli v1077 c1_i32_644
  let v1079 : BitVec 32 := Scalar.addi c0_i32_645 v1078
  v1079.toNat
def k0_off49 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_49 : BitVec 32 := 1#32
  let v152 : BitVec 32 := Scalar.shrsi v2 c1_i32_49
  let c1_i32_50 : BitVec 32 := 1#32
  let v153 : BitVec 32 := Scalar.andi v152 c1_i32_50
  let c176_i32 : BitVec 32 := 176#32
  let v176 : BitVec 32 := Scalar.muli v153 c176_i32
  let v177 : BitVec 32 := Scalar.addi v171 v176
  let c2_i32_51 : BitVec 32 := 2#32
  let v154 : BitVec 32 := Scalar.shrsi v2 c2_i32_51
  let c1_i32_52 : BitVec 32 := 1#32
  let v155 : BitVec 32 := Scalar.andi v154 c1_i32_52
  let c88_i32 : BitVec 32 := 88#32
  let v182 : BitVec 32 := Scalar.muli v155 c88_i32
  let v183 : BitVec 32 := Scalar.addi v177 v182
  let v1088 : Index := Scalar.indexCast v183
  let c0_649 : Index := 0#32
  ![v1088.toNat, 0]
def k0_off50 (d0 : Dev nD) : Fin 2 → Nat :=
  let c352_i32_648 : BitVec 32 := 352#32
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_49 : BitVec 32 := 1#32
  let v152 : BitVec 32 := Scalar.shrsi v2 c1_i32_49
  let c1_i32_50 : BitVec 32 := 1#32
  let v153 : BitVec 32 := Scalar.andi v152 c1_i32_50
  let c176_i32 : BitVec 32 := 176#32
  let v176 : BitVec 32 := Scalar.muli v153 c176_i32
  let v177 : BitVec 32 := Scalar.addi v171 v176
  let c2_i32_51 : BitVec 32 := 2#32
  let v154 : BitVec 32 := Scalar.shrsi v2 c2_i32_51
  let c1_i32_52 : BitVec 32 := 1#32
  let v155 : BitVec 32 := Scalar.andi v154 c1_i32_52
  let c88_i32 : BitVec 32 := 88#32
  let v182 : BitVec 32 := Scalar.muli v155 c88_i32
  let v183 : BitVec 32 := Scalar.addi v177 v182
  let v1086 : BitVec 32 := Scalar.subi v183 v177
  let v1087 : BitVec 32 := Scalar.addi c352_i32_648 v1086
  let v1091 : Index := Scalar.indexCast v1087
  let c0_650 : Index := 0#32
  ![v1091.toNat, 0]
def k0_off51 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c2_i32_55 : BitVec 32 := 2#32
  let v158 : BitVec 32 := Scalar.shrsi v2 c2_i32_55
  let c1_i32_56 : BitVec 32 := 1#32
  let v159 : BitVec 32 := Scalar.andi v158 c1_i32_56
  let c176_i32_67 : BitVec 32 := 176#32
  let v178 : BitVec 32 := Scalar.muli v159 c176_i32_67
  let v179 : BitVec 32 := Scalar.addi v173 v178
  let c1_i32_57 : BitVec 32 := 1#32
  let v160 : BitVec 32 := Scalar.shrsi v2 c1_i32_57
  let v161 : BitVec 32 := Scalar.xori v2 v160
  let c1_i32_58 : BitVec 32 := 1#32
  let v162 : BitVec 32 := Scalar.andi v161 c1_i32_58
  let c88_i32_68 : BitVec 32 := 88#32
  let v184 : BitVec 32 := Scalar.muli v162 c88_i32_68
  let v185 : BitVec 32 := Scalar.addi v179 v184
  let v1102 : Index := Scalar.indexCast v185
  let c0_653 : Index := 0#32
  ![v1102.toNat, 0]
def k0_off52 (d0 : Dev nD) : Fin 2 → Nat :=
  let c968_i32_652 : BitVec 32 := 968#32
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c2_i32_55 : BitVec 32 := 2#32
  let v158 : BitVec 32 := Scalar.shrsi v2 c2_i32_55
  let c1_i32_56 : BitVec 32 := 1#32
  let v159 : BitVec 32 := Scalar.andi v158 c1_i32_56
  let c176_i32_67 : BitVec 32 := 176#32
  let v178 : BitVec 32 := Scalar.muli v159 c176_i32_67
  let v179 : BitVec 32 := Scalar.addi v173 v178
  let c1_i32_57 : BitVec 32 := 1#32
  let v160 : BitVec 32 := Scalar.shrsi v2 c1_i32_57
  let v161 : BitVec 32 := Scalar.xori v2 v160
  let c1_i32_58 : BitVec 32 := 1#32
  let v162 : BitVec 32 := Scalar.andi v161 c1_i32_58
  let c88_i32_68 : BitVec 32 := 88#32
  let v184 : BitVec 32 := Scalar.muli v162 c88_i32_68
  let v185 : BitVec 32 := Scalar.addi v179 v184
  let v1100 : BitVec 32 := Scalar.subi v185 v179
  let v1101 : BitVec 32 := Scalar.addi c968_i32_652 v1100
  let v1105 : Index := Scalar.indexCast v1101
  let c0_654 : Index := 0#32
  ![v1105.toNat, 0]
def k0_off53 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let c160_i32 : BitVec 32 := 160#32
  let v180 : BitVec 32 := Scalar.muli v167 c160_i32
  let v181 : BitVec 32 := Scalar.addi v175 v180
  let c1_i32_63 : BitVec 32 := 1#32
  let v168 : BitVec 32 := Scalar.shrsi v2 c1_i32_63
  let c1_i32_64 : BitVec 32 := 1#32
  let v169 : BitVec 32 := Scalar.andi v168 c1_i32_64
  let c80_i32 : BitVec 32 := 80#32
  let v186 : BitVec 32 := Scalar.muli v169 c80_i32
  let v187 : BitVec 32 := Scalar.addi v181 v186
  let v1116 : Index := Scalar.indexCast v187
  let c0_657 : Index := 0#32
  ![v1116.toNat, 0]
def k0_off54 (d0 : Dev nD) : Fin 2 → Nat :=
  let c1552_i32_656 : BitVec 32 := 1552#32
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let c160_i32 : BitVec 32 := 160#32
  let v180 : BitVec 32 := Scalar.muli v167 c160_i32
  let v181 : BitVec 32 := Scalar.addi v175 v180
  let c1_i32_63 : BitVec 32 := 1#32
  let v168 : BitVec 32 := Scalar.shrsi v2 c1_i32_63
  let c1_i32_64 : BitVec 32 := 1#32
  let v169 : BitVec 32 := Scalar.andi v168 c1_i32_64
  let c80_i32 : BitVec 32 := 80#32
  let v186 : BitVec 32 := Scalar.muli v169 c80_i32
  let v187 : BitVec 32 := Scalar.addi v181 v186
  let v1114 : BitVec 32 := Scalar.subi v187 v181
  let v1115 : BitVec 32 := Scalar.addi c1552_i32_656 v1114
  let v1119 : Index := Scalar.indexCast v1115
  let c0_658 : Index := 0#32
  ![v1119.toNat, 0]
def k0_off55 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_49 : BitVec 32 := 1#32
  let v152 : BitVec 32 := Scalar.shrsi v2 c1_i32_49
  let c1_i32_50 : BitVec 32 := 1#32
  let v153 : BitVec 32 := Scalar.andi v152 c1_i32_50
  let c176_i32 : BitVec 32 := 176#32
  let v176 : BitVec 32 := Scalar.muli v153 c176_i32
  let v177 : BitVec 32 := Scalar.addi v171 v176
  let c2_i32_51 : BitVec 32 := 2#32
  let v154 : BitVec 32 := Scalar.shrsi v2 c2_i32_51
  let c1_i32_52 : BitVec 32 := 1#32
  let v155 : BitVec 32 := Scalar.andi v154 c1_i32_52
  let c88_i32 : BitVec 32 := 88#32
  let v182 : BitVec 32 := Scalar.muli v155 c88_i32
  let v183 : BitVec 32 := Scalar.addi v177 v182
  let c0_i32_729 : BitVec 32 := 0#32
  ![v183.toNat, 0]
def k0_dev13 (d0 : Dev nD) : Nat :=
  let c0_i32_728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_722 : BitVec 32 := 4#32
  let v1193 : BitVec 32 := Scalar.xori v2 c4_i32_722
  let c1_i32_727 : BitVec 32 := 1#32
  let v1194 : BitVec 32 := Scalar.muli v1193 c1_i32_727
  let v1195 : BitVec 32 := Scalar.addi c0_i32_728 v1194
  v1195.toNat
def k0_off56 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c2_i32_55 : BitVec 32 := 2#32
  let v158 : BitVec 32 := Scalar.shrsi v2 c2_i32_55
  let c1_i32_56 : BitVec 32 := 1#32
  let v159 : BitVec 32 := Scalar.andi v158 c1_i32_56
  let c176_i32_67 : BitVec 32 := 176#32
  let v178 : BitVec 32 := Scalar.muli v159 c176_i32_67
  let v179 : BitVec 32 := Scalar.addi v173 v178
  let c1_i32_57 : BitVec 32 := 1#32
  let v160 : BitVec 32 := Scalar.shrsi v2 c1_i32_57
  let v161 : BitVec 32 := Scalar.xori v2 v160
  let c1_i32_58 : BitVec 32 := 1#32
  let v162 : BitVec 32 := Scalar.andi v161 c1_i32_58
  let c88_i32_68 : BitVec 32 := 88#32
  let v184 : BitVec 32 := Scalar.muli v162 c88_i32_68
  let v185 : BitVec 32 := Scalar.addi v179 v184
  let c0_i32_741 : BitVec 32 := 0#32
  ![v185.toNat, 0]
def k0_dev14 (d0 : Dev nD) : Nat :=
  let c0_i32_740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_734 : BitVec 32 := 1#32
  let v1207 : BitVec 32 := Scalar.xori v2 c1_i32_734
  let c1_i32_739 : BitVec 32 := 1#32
  let v1208 : BitVec 32 := Scalar.muli v1207 c1_i32_739
  let v1209 : BitVec 32 := Scalar.addi c0_i32_740 v1208
  v1209.toNat
def k0_off57 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let c160_i32 : BitVec 32 := 160#32
  let v180 : BitVec 32 := Scalar.muli v167 c160_i32
  let v181 : BitVec 32 := Scalar.addi v175 v180
  let c1_i32_63 : BitVec 32 := 1#32
  let v168 : BitVec 32 := Scalar.shrsi v2 c1_i32_63
  let c1_i32_64 : BitVec 32 := 1#32
  let v169 : BitVec 32 := Scalar.andi v168 c1_i32_64
  let c80_i32 : BitVec 32 := 80#32
  let v186 : BitVec 32 := Scalar.muli v169 c80_i32
  let v187 : BitVec 32 := Scalar.addi v181 v186
  let c0_i32_753 : BitVec 32 := 0#32
  ![v187.toNat, 0]
def k0_dev15 (d0 : Dev nD) : Nat :=
  let c0_i32_752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_746 : BitVec 32 := 3#32
  let v1220 : BitVec 32 := Scalar.xori v2 c3_i32_746
  let c1_i32_751 : BitVec 32 := 1#32
  let v1221 : BitVec 32 := Scalar.muli v1220 c1_i32_751
  let v1222 : BitVec 32 := Scalar.addi c0_i32_752 v1221
  v1222.toNat
def k0_off58 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_49 : BitVec 32 := 1#32
  let v152 : BitVec 32 := Scalar.shrsi v2 c1_i32_49
  let c1_i32_50 : BitVec 32 := 1#32
  let v153 : BitVec 32 := Scalar.andi v152 c1_i32_50
  let c176_i32 : BitVec 32 := 176#32
  let v176 : BitVec 32 := Scalar.muli v153 c176_i32
  let v177 : BitVec 32 := Scalar.addi v171 v176
  let c2_i32_51 : BitVec 32 := 2#32
  let v154 : BitVec 32 := Scalar.shrsi v2 c2_i32_51
  let c1_i32_52 : BitVec 32 := 1#32
  let v155 : BitVec 32 := Scalar.andi v154 c1_i32_52
  let c88_i32 : BitVec 32 := 88#32
  let v182 : BitVec 32 := Scalar.muli v155 c88_i32
  let v183 : BitVec 32 := Scalar.addi v177 v182
  let c2_i32_720 : BitVec 32 := 2#32
  let v1191 : BitVec 32 := Scalar.shrsi v2 c2_i32_720
  let c1_i32_721 : BitVec 32 := 1#32
  let v1192 : BitVec 32 := Scalar.andi v1191 c1_i32_721
  let c88_i32_731 : BitVec 32 := 88#32
  let v1202 : BitVec 32 := Scalar.muli v1192 c88_i32_731
  let v1203 : BitVec 32 := Scalar.subi v183 v1202
  let c0_i32_810 : BitVec 32 := 0#32
  ![v1203.toNat, 0]
def k0_dev16 (d0 : Dev nD) : Nat :=
  let c0_i32_809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_803 : BitVec 32 := 3#32
  let v1263 : BitVec 32 := Scalar.xori v2 c3_i32_803
  let c1_i32_808 : BitVec 32 := 1#32
  let v1264 : BitVec 32 := Scalar.muli v1263 c1_i32_808
  let v1265 : BitVec 32 := Scalar.addi c0_i32_809 v1264
  v1265.toNat
def k0_off59 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c2_i32_55 : BitVec 32 := 2#32
  let v158 : BitVec 32 := Scalar.shrsi v2 c2_i32_55
  let c1_i32_56 : BitVec 32 := 1#32
  let v159 : BitVec 32 := Scalar.andi v158 c1_i32_56
  let c176_i32_67 : BitVec 32 := 176#32
  let v178 : BitVec 32 := Scalar.muli v159 c176_i32_67
  let v179 : BitVec 32 := Scalar.addi v173 v178
  let c1_i32_57 : BitVec 32 := 1#32
  let v160 : BitVec 32 := Scalar.shrsi v2 c1_i32_57
  let v161 : BitVec 32 := Scalar.xori v2 v160
  let c1_i32_58 : BitVec 32 := 1#32
  let v162 : BitVec 32 := Scalar.andi v161 c1_i32_58
  let c88_i32_68 : BitVec 32 := 88#32
  let v184 : BitVec 32 := Scalar.muli v162 c88_i32_68
  let v185 : BitVec 32 := Scalar.addi v179 v184
  let c1_i32_732 : BitVec 32 := 1#32
  let v1204 : BitVec 32 := Scalar.shrsi v2 c1_i32_732
  let v1205 : BitVec 32 := Scalar.xori v2 v1204
  let c1_i32_733 : BitVec 32 := 1#32
  let v1206 : BitVec 32 := Scalar.andi v1205 c1_i32_733
  let c88_i32_743 : BitVec 32 := 88#32
  let v1216 : BitVec 32 := Scalar.muli v1206 c88_i32_743
  let v1217 : BitVec 32 := Scalar.subi v185 v1216
  let c0_i32_822 : BitVec 32 := 0#32
  ![v1217.toNat, 0]
def k0_dev17 (d0 : Dev nD) : Nat :=
  let c0_i32_821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_815 : BitVec 32 := 4#32
  let v1276 : BitVec 32 := Scalar.xori v2 c4_i32_815
  let c1_i32_820 : BitVec 32 := 1#32
  let v1277 : BitVec 32 := Scalar.muli v1276 c1_i32_820
  let v1278 : BitVec 32 := Scalar.addi c0_i32_821 v1277
  v1278.toNat
def k0_off60 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let c160_i32 : BitVec 32 := 160#32
  let v180 : BitVec 32 := Scalar.muli v167 c160_i32
  let v181 : BitVec 32 := Scalar.addi v175 v180
  let c1_i32_63 : BitVec 32 := 1#32
  let v168 : BitVec 32 := Scalar.shrsi v2 c1_i32_63
  let c1_i32_64 : BitVec 32 := 1#32
  let v169 : BitVec 32 := Scalar.andi v168 c1_i32_64
  let c80_i32 : BitVec 32 := 80#32
  let v186 : BitVec 32 := Scalar.muli v169 c80_i32
  let v187 : BitVec 32 := Scalar.addi v181 v186
  let c1_i32_744 : BitVec 32 := 1#32
  let v1218 : BitVec 32 := Scalar.shrsi v2 c1_i32_744
  let c1_i32_745 : BitVec 32 := 1#32
  let v1219 : BitVec 32 := Scalar.andi v1218 c1_i32_745
  let c80_i32_755 : BitVec 32 := 80#32
  let v1229 : BitVec 32 := Scalar.muli v1219 c80_i32_755
  let v1230 : BitVec 32 := Scalar.subi v187 v1229
  let c0_i32_834 : BitVec 32 := 0#32
  ![v1230.toNat, 0]
def k0_dev18 (d0 : Dev nD) : Nat :=
  let c0_i32_833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_827 : BitVec 32 := 1#32
  let v1290 : BitVec 32 := Scalar.xori v2 c1_i32_827
  let c1_i32_832 : BitVec 32 := 1#32
  let v1291 : BitVec 32 := Scalar.muli v1290 c1_i32_832
  let v1292 : BitVec 32 := Scalar.addi c0_i32_833 v1291
  v1292.toNat
def k0_off61 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v149 : BitVec 32 := Scalar.shrsi v2 c1_i32_47
  let v150 : BitVec 32 := Scalar.xori v2 v149
  let c1_i32_48 : BitVec 32 := 1#32
  let v151 : BitVec 32 := Scalar.andi v150 c1_i32_48
  let c352_i32 : BitVec 32 := 352#32
  let v170 : BitVec 32 := Scalar.muli v151 c352_i32
  let v171 : BitVec 32 := Scalar.addi c0_i32_65 v170
  let c1_i32_49 : BitVec 32 := 1#32
  let v152 : BitVec 32 := Scalar.shrsi v2 c1_i32_49
  let c1_i32_50 : BitVec 32 := 1#32
  let v153 : BitVec 32 := Scalar.andi v152 c1_i32_50
  let c176_i32 : BitVec 32 := 176#32
  let v176 : BitVec 32 := Scalar.muli v153 c176_i32
  let v177 : BitVec 32 := Scalar.addi v171 v176
  let c2_i32_51 : BitVec 32 := 2#32
  let v154 : BitVec 32 := Scalar.shrsi v2 c2_i32_51
  let c1_i32_52 : BitVec 32 := 1#32
  let v155 : BitVec 32 := Scalar.andi v154 c1_i32_52
  let c88_i32 : BitVec 32 := 88#32
  let v182 : BitVec 32 := Scalar.muli v155 c88_i32
  let v183 : BitVec 32 := Scalar.addi v177 v182
  let c2_i32_720 : BitVec 32 := 2#32
  let v1191 : BitVec 32 := Scalar.shrsi v2 c2_i32_720
  let c1_i32_721 : BitVec 32 := 1#32
  let v1192 : BitVec 32 := Scalar.andi v1191 c1_i32_721
  let c88_i32_731 : BitVec 32 := 88#32
  let v1202 : BitVec 32 := Scalar.muli v1192 c88_i32_731
  let v1203 : BitVec 32 := Scalar.subi v183 v1202
  let c1_i32_801 : BitVec 32 := 1#32
  let v1261 : BitVec 32 := Scalar.shrsi v2 c1_i32_801
  let c1_i32_802 : BitVec 32 := 1#32
  let v1262 : BitVec 32 := Scalar.andi v1261 c1_i32_802
  let c176_i32_812 : BitVec 32 := 176#32
  let v1272 : BitVec 32 := Scalar.muli v1262 c176_i32_812
  let v1273 : BitVec 32 := Scalar.subi v1203 v1272
  let c0_i32_889 : BitVec 32 := 0#32
  ![v1273.toNat, 0]
def k0_dev19 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_882 : BitVec 32 := 1#32
  let v1331 : BitVec 32 := Scalar.xori v2 c1_i32_882
  let c1_i32_887 : BitVec 32 := 1#32
  let v1332 : BitVec 32 := Scalar.muli v1331 c1_i32_887
  let v1333 : BitVec 32 := Scalar.addi c0_i32_888 v1332
  v1333.toNat
def k0_off62 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v156 : BitVec 32 := Scalar.shrsi v2 c1_i32_53
  let c1_i32_54 : BitVec 32 := 1#32
  let v157 : BitVec 32 := Scalar.andi v156 c1_i32_54
  let c352_i32_66 : BitVec 32 := 352#32
  let v172 : BitVec 32 := Scalar.muli v157 c352_i32_66
  let v173 : BitVec 32 := Scalar.addi c704_i32 v172
  let c2_i32_55 : BitVec 32 := 2#32
  let v158 : BitVec 32 := Scalar.shrsi v2 c2_i32_55
  let c1_i32_56 : BitVec 32 := 1#32
  let v159 : BitVec 32 := Scalar.andi v158 c1_i32_56
  let c176_i32_67 : BitVec 32 := 176#32
  let v178 : BitVec 32 := Scalar.muli v159 c176_i32_67
  let v179 : BitVec 32 := Scalar.addi v173 v178
  let c1_i32_57 : BitVec 32 := 1#32
  let v160 : BitVec 32 := Scalar.shrsi v2 c1_i32_57
  let v161 : BitVec 32 := Scalar.xori v2 v160
  let c1_i32_58 : BitVec 32 := 1#32
  let v162 : BitVec 32 := Scalar.andi v161 c1_i32_58
  let c88_i32_68 : BitVec 32 := 88#32
  let v184 : BitVec 32 := Scalar.muli v162 c88_i32_68
  let v185 : BitVec 32 := Scalar.addi v179 v184
  let c1_i32_732 : BitVec 32 := 1#32
  let v1204 : BitVec 32 := Scalar.shrsi v2 c1_i32_732
  let v1205 : BitVec 32 := Scalar.xori v2 v1204
  let c1_i32_733 : BitVec 32 := 1#32
  let v1206 : BitVec 32 := Scalar.andi v1205 c1_i32_733
  let c88_i32_743 : BitVec 32 := 88#32
  let v1216 : BitVec 32 := Scalar.muli v1206 c88_i32_743
  let v1217 : BitVec 32 := Scalar.subi v185 v1216
  let c2_i32_813 : BitVec 32 := 2#32
  let v1274 : BitVec 32 := Scalar.shrsi v2 c2_i32_813
  let c1_i32_814 : BitVec 32 := 1#32
  let v1275 : BitVec 32 := Scalar.andi v1274 c1_i32_814
  let c176_i32_824 : BitVec 32 := 176#32
  let v1285 : BitVec 32 := Scalar.muli v1275 c176_i32_824
  let v1286 : BitVec 32 := Scalar.subi v1217 v1285
  let c0_i32_898 : BitVec 32 := 0#32
  ![v1286.toNat, 0]
def k0_dev20 (d0 : Dev nD) : Nat :=
  let c0_i32_897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_891 : BitVec 32 := 3#32
  let v1340 : BitVec 32 := Scalar.xori v2 c3_i32_891
  let c1_i32_896 : BitVec 32 := 1#32
  let v1341 : BitVec 32 := Scalar.muli v1340 c1_i32_896
  let v1342 : BitVec 32 := Scalar.addi c0_i32_897 v1341
  v1342.toNat
def k0_off63 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v163 : BitVec 32 := Scalar.shrsi v2 c2_i32_59
  let c1_i32_60 : BitVec 32 := 1#32
  let v164 : BitVec 32 := Scalar.andi v163 c1_i32_60
  let c320_i32 : BitVec 32 := 320#32
  let v174 : BitVec 32 := Scalar.muli v164 c320_i32
  let v175 : BitVec 32 := Scalar.addi c1408_i32 v174
  let c1_i32_61 : BitVec 32 := 1#32
  let v165 : BitVec 32 := Scalar.shrsi v2 c1_i32_61
  let v166 : BitVec 32 := Scalar.xori v2 v165
  let c1_i32_62 : BitVec 32 := 1#32
  let v167 : BitVec 32 := Scalar.andi v166 c1_i32_62
  let c160_i32 : BitVec 32 := 160#32
  let v180 : BitVec 32 := Scalar.muli v167 c160_i32
  let v181 : BitVec 32 := Scalar.addi v175 v180
  let c1_i32_63 : BitVec 32 := 1#32
  let v168 : BitVec 32 := Scalar.shrsi v2 c1_i32_63
  let c1_i32_64 : BitVec 32 := 1#32
  let v169 : BitVec 32 := Scalar.andi v168 c1_i32_64
  let c80_i32 : BitVec 32 := 80#32
  let v186 : BitVec 32 := Scalar.muli v169 c80_i32
  let v187 : BitVec 32 := Scalar.addi v181 v186
  let c1_i32_744 : BitVec 32 := 1#32
  let v1218 : BitVec 32 := Scalar.shrsi v2 c1_i32_744
  let c1_i32_745 : BitVec 32 := 1#32
  let v1219 : BitVec 32 := Scalar.andi v1218 c1_i32_745
  let c80_i32_755 : BitVec 32 := 80#32
  let v1229 : BitVec 32 := Scalar.muli v1219 c80_i32_755
  let v1230 : BitVec 32 := Scalar.subi v187 v1229
  let c1_i32_825 : BitVec 32 := 1#32
  let v1287 : BitVec 32 := Scalar.shrsi v2 c1_i32_825
  let v1288 : BitVec 32 := Scalar.xori v2 v1287
  let c1_i32_826 : BitVec 32 := 1#32
  let v1289 : BitVec 32 := Scalar.andi v1288 c1_i32_826
  let c160_i32_836 : BitVec 32 := 160#32
  let v1299 : BitVec 32 := Scalar.muli v1289 c160_i32_836
  let v1300 : BitVec 32 := Scalar.subi v1230 v1299
  let c0_i32_907 : BitVec 32 := 0#32
  ![v1300.toNat, 0]
def k0_dev21 (d0 : Dev nD) : Nat :=
  let c0_i32_906 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_900 : BitVec 32 := 4#32
  let v1349 : BitVec 32 := Scalar.xori v2 c4_i32_900
  let c1_i32_905 : BitVec 32 := 1#32
  let v1350 : BitVec 32 := Scalar.muli v1349 c1_i32_905
  let v1351 : BitVec 32 := Scalar.addi c0_i32_906 v1350
  v1351.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S1 : Shape := ⟨1, ![1]⟩
abbrev S1x1x1 : Shape := ⟨3, ![1, 1, 1]⟩
abbrev S2048x512x1024 : Shape := ⟨3, ![2048, 512, 1024]⟩
abbrev S2048x1024 : Shape := ⟨2, ![2048, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x2, .i32⟩
  | .hbm, ⟨3, _⟩ => ⟨S64x512x1024, .f32⟩
  | .hbm, ⟨4, _⟩ => ⟨S2048x64, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x64, .f32⟩
  | .hbm, ⟨15, _⟩ => ⟨S2048x64, .f32⟩
  | .hbm, ⟨16, _⟩ => ⟨S_, .i32⟩
  | .hbm, ⟨17, _⟩ => ⟨S2048x2, .i32⟩
  | .hbm, ⟨18, _⟩ => ⟨S2048x2, .i1⟩
  | .hbm, ⟨19, _⟩ => ⟨S_, .i32⟩
  | .hbm, ⟨20, _⟩ => ⟨S2048x2, .i32⟩
  | .hbm, ⟨21, _⟩ => ⟨S2048x2, .i32⟩
  | .hbm, ⟨22, _⟩ => ⟨S2048x2, .i32⟩
  | .hbm, ⟨23, _⟩ => ⟨S2048x2x1, .i32⟩
  | .hbm, ⟨24, _⟩ => ⟨S1, .i32⟩
  | .hbm, ⟨25, _⟩ => ⟨S_, .i32⟩
  | .hbm, ⟨26, _⟩ => ⟨S2048x2x1, .i32⟩
  | .hbm, ⟨27, _⟩ => ⟨S2048x2x1, .i1⟩
  | .hbm, ⟨28, _⟩ => ⟨S1x1x1, .i32⟩
  | .hbm, ⟨29, _⟩ => ⟨S2048x2x1, .i32⟩
  | .hbm, ⟨30, _⟩ => ⟨S2048x2x1, .i1⟩
  | .hbm, ⟨31, _⟩ => ⟨S2048x2x1, .i1⟩
  | .hbm, ⟨32, _⟩ => ⟨S_, .i1⟩
  | .hbm, ⟨33, _⟩ => ⟨S2048x2, .i1⟩
  | .hbm, ⟨34, _⟩ => ⟨S2048x2, .f32⟩
  | .hbm, ⟨35, _⟩ => ⟨S_, .f32⟩
  | .hbm, ⟨36, _⟩ => ⟨S2048x2, .f32⟩
  | .hbm, ⟨37, _⟩ => ⟨S2048x2, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S2048x1, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S_, .i32⟩
  | .hbm, ⟨47, _⟩ => ⟨S2048, .i32⟩
  | .hbm, ⟨48, _⟩ => ⟨S2048, .i32⟩
  | .hbm, ⟨49, _⟩ => ⟨S2048, .i32⟩
  | .hbm, ⟨50, _⟩ => ⟨S2048x1, .i32⟩
  | .hbm, ⟨51, _⟩ => ⟨S2048x512x1024, .f32⟩
  | .hbm, ⟨52, _⟩ => ⟨S2048x1024, .f32⟩
  | .hbm, ⟨53, _⟩ => ⟨S2048x1, .i32⟩
  | .hbm, ⟨54, _⟩ => ⟨S2048, .i32⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S2048x1, .i32⟩
  | .hbm, ⟨63, _⟩ => ⟨S2048x512x1024, .f32⟩
  | .hbm, ⟨64, _⟩ => ⟨S2048x1024, .f32⟩
  | .hbm, ⟨65, _⟩ => ⟨S2048x1, .f32⟩
  | .hbm, ⟨66, _⟩ => ⟨S2048x1024, .f32⟩
  | .hbm, ⟨67, _⟩ => ⟨S2048x1024, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_2 : Ref sig .tc := ⟨.hbm, 55, rfl⟩
abbrev main_v26 : Ref sig .tc := ⟨.hbm, 56, rfl⟩
abbrev main_v27 : Ref sig .tc := ⟨.hbm, 57, rfl⟩
abbrev main_c_3 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]
-- ==== Proof.Spec.lean ====
/- The mathematics both programs compute, row by row over the extended reals: a softmax of the router's scores, the two
   routed experts' gates divided by their sum, and the sum of the two experts' products so weighted. With it, what a
   finite input gives: the two shares are positive reals. -/
module

public import Idealize.ShloMosaic.Lib.Pointwise
public import Idealize.ShloMosaic.PureOps.Ideal

@[expose] public section

noncomputable section

namespace Cert.Moe

open Idealize.ShloMosaic

variable (X : (⟨2, ![2048, 512]⟩ : Shape).Idx → EReal) (R : (⟨2, ![512, 64]⟩ : Shape).Idx → EReal)

/-- Row `r`'s score of expert `n`. -/
def score (r : Fin 2048) (n : Fin 64) : EReal := ∑ k : Fin 512, X (ix2 r k) * R (ix2 k n)
/-- Row `r`'s greatest score. -/
def top (r : Fin 2048) : EReal := Finset.univ.fold max ⊥ fun n => score X R r n
/-- The exponential of a score less the greatest. -/
def ex (r : Fin 2048) (n : Fin 64) : EReal := Ideal.exp (score X R r n - top X R r)
/-- The softmax. -/
def prob (r : Fin 2048) (n : Fin 64) : EReal := Ideal.div (ex X R r n) (∑ n', ex X R r n')

/-- The part of the first of two experts in the sum of the two gates. -/
def share (r : Fin 2048) (n n' n₀ : Fin 64) : EReal := Ideal.div (prob X R r n₀) (prob X R r n + prob X R r n')

/-- Row `r` of `X` times the matrix of expert `n`. -/
def prod (E : (⟨3, ![64, 512, 1024]⟩ : Shape).Idx → EReal) (r : Fin 2048) (n : Fin 64) (o : Fin 1024) : EReal :=
  ∑ k : Fin 512, X (ix2 r k) * E (ix3 n k o)

/-- The result at row `r`, whose routed experts are `n` and `n'`. -/
def out (E : (⟨3, ![64, 512, 1024]⟩ : Shape).Idx → EReal) (r : Fin 2048) (n n' : Fin 64) (o : Fin 1024) : EReal :=
  share X R r n n' n * prod X E r n o + share X R r n n' n' * prod X E r n' o

/-- The pattern of minus infinity. -/
theorem negInf : Ideal.ofBits .f32 0xFF800000#32 = ⊥ := by simp [Ideal.ofBits, Ideal.ieee]
/-- The pattern of plus infinity. -/
theorem posInf : Ideal.ofBits .f32 0x7F800000#32 = ⊤ := by simp [Ideal.ofBits, Ideal.ieee]

/-! ## Finite inputs -/

/-- An extended real that is a real. -/
def IsR (x : EReal) : Prop := ∃ q : ℝ, x = q
/-- An extended real that is a positive real. -/
def IsPos (x : EReal) : Prop := ∃ q : ℝ, 0 < q ∧ x = q

theorem isR_of {x : EReal} (h1 : x ≠ ⊥) (h2 : x ≠ ⊤) : IsR x := ⟨x.toReal, (EReal.coe_toReal h2 h1).symm⟩

theorem isR_sum {ι : Type*} (s : Finset ι) (f : ι → EReal) (h : ∀ i, IsR (f i)) : IsR (∑ i ∈ s, f i) := by
  classical
  choose g hg using h
  refine ⟨∑ i ∈ s, g i, ?_⟩
  rw [Finset.sum_congr rfl fun i _ => hg i]
  induction s using Finset.induction_on with
  | empty => simp
  | insert a s ha ih => rw [Finset.sum_insert ha, Finset.sum_insert ha, ih, EReal.coe_add]

theorem isPos_sum {ι : Type*} [Fintype ι] [Nonempty ι] (f : ι → EReal) (h : ∀ i, IsPos (f i)) : IsPos (∑ i, f i) := by
  classical
  choose g h0 hg using h
  refine ⟨∑ i, g i, Finset.sum_pos (fun i _ => h0 i) Finset.univ_nonempty, ?_⟩
  rw [Finset.sum_congr rfl fun i _ => hg i]
  induction (Finset.univ : Finset ι) using Finset.induction_on with
  | empty => simp
  | insert a s ha ih => rw [Finset.sum_insert ha, Finset.sum_insert ha, ih, EReal.coe_add]

theorem isPos_add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

theorem isPos_div {x y : EReal} (hx : IsPos x) (hy : IsPos y) : IsPos (Ideal.div x y) := by
  obtain ⟨a, ha, rfl⟩ := hx; obtain ⟨b, hb, rfl⟩ := hy
  refine ⟨a * b⁻¹, mul_pos ha (inv_pos.2 hb), ?_⟩
  unfold Ideal.div
  rw [if_neg (by exact_mod_cast hb.ne'), EReal.coe_mul, EReal.coe_inv]

variable {X R}

theorem isR_score (hX : ∀ i, IsR (X i)) (hR : ∀ i, IsR (R i)) (r : Fin 2048) (n : Fin 64) : IsR (score X R r n) := by
  refine isR_sum _ _ fun k => ?_
  obtain ⟨a, ha⟩ := hX (ix2 r k); obtain ⟨b, hb⟩ := hR (ix2 k n)
  exact ⟨a * b, by rw [ha, hb, EReal.coe_mul]⟩

theorem isR_top (hX : ∀ i, IsR (X i)) (hR : ∀ i, IsR (R i)) (r : Fin 2048) : IsR (top X R r) := by
  refine isR_of ?_ ?_
  · refine ((Finset.lt_fold_max _).2 (Or.inr ⟨0, Finset.mem_univ _, ?_⟩)).ne'
    obtain ⟨q, hq⟩ := isR_score hX hR r 0
    rw [hq]; exact EReal.bot_lt_coe q
  · refine ((Finset.fold_max_lt _).2 ⟨bot_lt_top, fun n _ => ?_⟩).ne
    obtain ⟨q, hq⟩ := isR_score hX hR r n
    rw [hq]; exact EReal.coe_lt_top q

theorem isPos_ex (hX : ∀ i, IsR (X i)) (hR : ∀ i, IsR (R i)) (r : Fin 2048) (n : Fin 64) : IsPos (ex X R r n) := by
  obtain ⟨a, ha⟩ := isR_score hX hR r n
  obtain ⟨b, hb⟩ := isR_top hX hR r
  refine ⟨Real.exp (a - b), Real.exp_pos _, ?_⟩
  unfold ex
  rw [ha, hb, ← EReal.coe_sub]; rfl

theorem isPos_prob (hX : ∀ i, IsR (X i)) (hR : ∀ i, IsR (R i)) (r : Fin 2048) (n : Fin 64) : IsPos (prob X R r n) :=
  isPos_div (isPos_ex hX hR r n) (isPos_sum _ fun n' => isPos_ex hX hR r n')

/-- A finite input's shares are positive reals. -/
theorem isPos_share (hX : ∀ i, IsR (X i)) (hR : ∀ i, IsR (R i)) (r : Fin 2048) (n n' n₀ : Fin 64) : IsPos (share X R r n n' n₀) :=
  isPos_div (isPos_prob hX hR r n₀) (isPos_add (isPos_prob hX hR r n) (isPos_prob hX hR r n'))

/-! ## The experts' sum -/

/-- A nonnegative real times a sum is the sum of the products, whatever the terms. -/
theorem mul_sum' {ι : Type*} (s : Finset ι) (w : EReal) (h0 : 0 ≤ w) (ht : w ≠ ⊤) (f : ι → EReal) :
    w * ∑ i ∈ s, f i = ∑ i ∈ s, w * f i := by
  classical
  induction s using Finset.induction_on with
  | empty => simp
  | insert a s ha ih => rw [Finset.sum_insert ha, Finset.sum_insert ha, EReal.left_distrib_of_nonneg_of_ne_top h0 ht, ih]

/-- The weight of expert `n` in a row routed to `n₀` with `a` and to `n₁` with `b`. -/
def wt (n₀ n₁ : Fin 64) (a b : EReal) (n : Fin 64) : EReal := (if n₀ = n then a else 0) + (if n₁ = n then b else 0)

/-- The weighted rows times every expert's matrix, summed over the experts: the two routed experts' products weighted. -/
theorem experts_sum (E : (⟨3, ![64, 512, 1024]⟩ : Shape).Idx → EReal) (r : Fin 2048) (o : Fin 1024) (n₀ n₁ : Fin 64) (a b : EReal)
    (ha : IsPos a) (hb : IsPos b) :
    ∑ n : Fin 64, ∑ k : Fin 512, X (ix2 r k) * wt n₀ n₁ a b n * E (ix3 n k o) = a * prod X E r n₀ o + b * prod X E r n₁ o := by
  obtain ⟨qa, ha, rfl⟩ := ha; obtain ⟨qb, hb, rfl⟩ := hb
  have ha0 : (0 : EReal) ≤ (qa : EReal) := by exact_mod_cast ha.le
  have hb0 : (0 : EReal) ≤ (qb : EReal) := by exact_mod_cast hb.le
  have h : ∀ n : Fin 64, ∑ k : Fin 512, X (ix2 r k) * wt n₀ n₁ qa qb n * E (ix3 n k o)
      = (if n₀ = n then (qa : EReal) * prod X E r n o else 0) + (if n₁ = n then (qb : EReal) * prod X E r n o else 0) := by
    intro n
    have hA : (0 : EReal) ≤ (if n₀ = n then (qa : EReal) else 0) := by split <;> simp [ha0]
    have hB : (0 : EReal) ≤ (if n₁ = n then (qb : EReal) else 0) := by split <;> simp [hb0]
    have hw0 : 0 ≤ wt n₀ n₁ qa qb n := add_nonneg hA hB
    have hwt : wt n₀ n₁ qa qb n ≠ ⊤ := by
      unfold wt
      refine (EReal.add_lt_top ?_ ?_).ne <;> split <;> simp
    rw [show (if n₀ = n then (qa : EReal) * prod X E r n o else 0) = (if n₀ = n then (qa : EReal) else 0) * prod X E r n o by split <;> simp,
      show (if n₁ = n then (qb : EReal) * prod X E r n o else 0) = (if n₁ = n then (qb : EReal) else 0) * prod X E r n o by split <;> simp,
      ← EReal.right_distrib_of_nonneg hA hB]
    unfold prod
    rw [show (if n₀ = n then (qa : EReal) else 0) + (if n₁ = n then (qb : EReal) else 0) = wt n₀ n₁ qa qb n from rfl, mul_sum' _ _ hw0 hwt]
    refine Finset.sum_congr rfl fun k _ => ?_
    rw [mul_comm (X _), mul_assoc]
  rw [Finset.sum_congr rfl fun n _ => h n, Finset.sum_add_distrib, Finset.sum_ite_eq, Finset.sum_ite_eq, if_pos (Finset.mem_univ _),
    if_pos (Finset.mem_univ _)]

/-- A sum over the experts is the sum over the devices of the sums over their eight. -/
theorem sum_devices (f : Fin 64 → EReal) :
    ∑ d : Fin 8, ∑ e : Fin 8, f ⟨8 * d.val + e.val, by omega⟩ = ∑ n : Fin 64, f n := by
  rw [← Finset.sum_product', Finset.univ_product_univ]
  refine Fintype.sum_equiv finProdFinEquiv _ _ fun p => ?_
  refine congrArg f (Fin.ext ?_)
  show 8 * p.1.val + p.2.val = p.2.val + 8 * p.1.val
  omega

end Cert.Moe

end
-- ==== Proof.Routed.lean ====
/- What the precondition says: the entries of `x` and of the router's matrix are reals, and every routing index is an
   expert's number. Its two printed copies' shape facts. -/
module

public import proofs.«01_k».proof.Pre_routed_KernelIdeal
public import proofs.«01_k».proof.Pre_routed_ReferenceIdeal
public import proofs.«01_k».proof.Proof.Spec
public import Idealize.ShloMosaic.Lib.Pointwise
public import Idealize.ShloMosaic.Lib.ReduceAll

@[expose] public section

set_option maxRecDepth 16384

noncomputable section

namespace Cert.Moe

open Idealize.ShloMosaic

/-- The shape facts of the precondition over the kernel's arguments. -/
instance factsK : Cert.Pre_routed_KernelIdeal.Facts := ⟨by decide, by decide, by decide, by decide, by decide, by decide, by decide⟩
/-- The shape facts of the precondition over the reference's arguments. -/
instance factsR : Cert.Pre_routed_ReferenceIdeal.Facts := ⟨by decide, by decide, by decide, by decide, by decide, by decide, by decide⟩

/-- A value whose magnitude compares below plus infinity is a real. -/
theorem isR_of_cmp (x : EReal) (h : Ideal.cmp .olt (max x (-x)) (Ideal.ofBits .f32 0x7F800000#32) = 1#1) : IsR x := by
  rw [posInf] at h
  refine isR_of ?_ ?_ <;> rintro rfl <;> simp [Ideal.cmp] at h

/-- A word between zero and sixty-four, signed, is an expert's number. -/
theorem expert_of_cmp (w : BitVec 32) (h : IntOp.andi (IntOp.cmpi .sge w 0#32) (IntOp.cmpi .slt w 64#32) = 1#1) :
    ∃ n : Fin 64, w = BitVec.ofNat 32 n.val := by
  obtain ⟨h1, h2⟩ := IntOp.andi_eq_one.1 h
  have ob : ∀ b : Bool, BitVec.ofBool b = 1#1 → b = true := by decide
  have h1' : (0#32).sle w = true := ob _ h1
  have h2' : w.slt 64#32 = true := ob _ h2
  rw [BitVec.sle_iff_toInt_le] at h1'
  rw [BitVec.slt_iff_toInt_lt] at h2'
  have hn : w.toNat < 64 := by
    have e0 : (0#32 : BitVec 32).toInt = 0 := by decide
    have e1 : (64#32 : BitVec 32).toInt = 64 := by decide
    rw [e0] at h1'
    rw [e1] at h2'
    have := BitVec.toInt_eq_toNat_cond w
    split at this <;> omega
  exact ⟨⟨w.toNat, hn⟩, by simp⟩

/-- The precondition read back. -/
theorem routed_of_fn (X : FVec Ideal ⟨2, ![2048, 512]⟩ .f32) (R : FVec Ideal ⟨2, ![512, 64]⟩ .f32) (I : IVec ⟨2, ![2048, 2]⟩ 32)
    (E : FVec Ideal ⟨3, ![8, 512, 1024]⟩ .f32) (h : Cert.Pre_routed_KernelIdeal.fn (F := Ideal) X R I E = fun _ => 1#1) :
    (∀ i, IsR (X i)) ∧ (∀ i, IsR (R i)) ∧ ∀ (r : Fin 2048) (s : Fin 2), ∃ n : Fin 64, I (ix2 r s) = BitVec.ofNat 32 n.val := by
  haveI : Subsingleton Cert.Pre_routed_KernelIdeal.S_.Idx := ⟨fun a b => funext fun x => x.elim0⟩
  have e := congrFun h (fun x => x.elim0)
  unfold Cert.Pre_routed_KernelIdeal.fn at e
  obtain ⟨e', e3⟩ := IntOp.andi_eq_one.1 e
  obtain ⟨e1, e2⟩ := IntOp.andi_eq_one.1 e'
  refine ⟨fun i => isR_of_cmp _ ?_, fun i => isR_of_cmp _ ?_, fun r s => expert_of_cmp _ ?_⟩
  · exact Host.reduce_andi_all _ _ _ _ _ e1 i
  · exact Host.reduce_andi_all _ _ _ _ _ e2 i
  · exact Host.reduce_andi_all _ _ _ _ _ e3 (ix2 r s)

end Cert.Moe

end
-- ==== Proof.KernelIdeal.Geo.lean ====
/- The geometry of the exchange: the row blocks each device computes, sends and receives, the devices it
   exchanges with, and the closed forms of the printed offsets and device numbers. -/
module

public import proofs.«01_k».proof.Proof.Gen.KernelIdeal
public import proofs.«01_k».proof.Proof.Gen.KernelIdeal.Skeleton

@[expose] public section

set_option maxRecDepth 16384

noncomputable section

namespace Cert.KernelIdeal.Run

open Idealize.ShloMosaic Cert.KernelIdeal.Gen

/-! ## Tables -/

/-- The three row parts: first row, and the sizes of their halves, quarters and eighths. -/
def R0 : Fin 3 → ℕ := ![0, 704, 1408]
def Hs : Fin 3 → ℕ := ![352, 352, 320]
def Qs : Fin 3 → ℕ := ![176, 176, 160]
def Es : Fin 3 → ℕ := ![88, 88, 80]
/-- First row of a part's three landing regions. -/
def cr0 : Fin 3 → ℕ := ![0, 616, 1232]
def cr1 : Fin 3 → ℕ := ![352, 968, 1552]
def cr2 : Fin 3 → ℕ := ![528, 1144, 1712]

/-- The three masks, by number. -/
def msk : Fin 3 → ℕ := ![1, 3, 4]
set_option backward.proofsInPublic true in
/-- The device across mask number `k`. -/
def pa (c : Dev nD) (k : Fin 3) : Dev nD := ⟨(c.val ^^^ msk k) % 8, Nat.mod_lt _ (by decide)⟩
/-- The bit of a device that mask number `k` flips. -/
def bt (c : Dev nD) (k : Fin 3) : ℕ := ![(c.val ^^^ (c.val / 2)) % 2, c.val / 2 % 2, c.val / 4 % 2] k

theorem pa_pa (c : Dev nD) (k : Fin 3) : pa (pa c k) k = c := by revert c k; decide

/-- The rows a device keeps (`o0`, `o1`, `o2`) and gives away (`oH`, `oQ`, `oE`) at the three halvings of part `p`. -/
def o0 (c : Dev nD) (p : Fin 3) : ℕ := R0 p + bt c p * Hs p
def oH (c : Dev nD) (p : Fin 3) : ℕ := R0 p + (1 - bt c p) * Hs p
def o1 (c : Dev nD) (p : Fin 3) : ℕ := o0 c p + bt c (p + 1) * Qs p
def oQ (c : Dev nD) (p : Fin 3) : ℕ := o0 c p + (1 - bt c (p + 1)) * Qs p
def o2 (c : Dev nD) (p : Fin 3) : ℕ := o1 c p + bt c (p + 2) * Es p
def oE (c : Dev nD) (p : Fin 3) : ℕ := o1 c p + (1 - bt c (p + 2)) * Es p

/-- Rows moved at step `s` of part `p`: three halvings, then three doublings. -/
def sz (p : Fin 3) (s : Fin 6) : ℕ := ![Hs p, Qs p, Es p, Es p, Qs p, Hs p] s
/-- First row device `c` sends at step `s`. -/
def so (c : Dev nD) (p : Fin 3) (s : Fin 6) : ℕ := ![oH c p, oQ c p, oE c p, o2 c p, o1 c p, o0 c p] s
/-- First landing row of the halving step `s`. -/
def cr (p : Fin 3) (s : Fin 3) : ℕ := ![cr0 p, cr1 p, cr2 p] s
/-- The mask number of step `s` of part `p`. -/
def mk (p : Fin 3) (s : Fin 6) : Fin 3 := p + ![0, 1, 2, 2, 1, 0] s
/-- Device `c`'s partner at step `s` of part `p`. -/
def pr (c : Dev nD) (p : Fin 3) (s : Fin 6) : Dev nD := pa c (mk p s)

theorem pr_pr (c : Dev nD) (p : Fin 3) (s : Fin 6) : pr (pr c p s) p s = c := pa_pa c _

/-! ## The printed device numbers -/

theorem dev1_eq (c : Dev nD) : (⟨k0_dev1 c, k0_dev1_lt c⟩ : Dev nD) = pa c 0 := by revert c; decide
theorem dev2_eq (c : Dev nD) : (⟨k0_dev2 c, k0_dev2_lt c⟩ : Dev nD) = pa c 1 := by revert c; decide
theorem dev3_eq (c : Dev nD) : (⟨k0_dev3 c, k0_dev3_lt c⟩ : Dev nD) = pa c 2 := by revert c; decide
theorem dev4_eq (c : Dev nD) : (⟨k0_dev4 c, k0_dev4_lt c⟩ : Dev nD) = pr c 0 0 := by revert c; decide
theorem dev5_eq (c : Dev nD) : (⟨k0_dev5 c, k0_dev5_lt c⟩ : Dev nD) = pr c 1 0 := by revert c; decide
theorem dev6_eq (c : Dev nD) : (⟨k0_dev6 c, k0_dev6_lt c⟩ : Dev nD) = pr c 2 0 := by revert c; decide
theorem dev7_eq (c : Dev nD) : (⟨k0_dev7 c, k0_dev7_lt c⟩ : Dev nD) = pr c 0 1 := by revert c; decide
theorem dev8_eq (c : Dev nD) : (⟨k0_dev8 c, k0_dev8_lt c⟩ : Dev nD) = pr c 1 1 := by revert c; decide
theorem dev9_eq (c : Dev nD) : (⟨k0_dev9 c, k0_dev9_lt c⟩ : Dev nD) = pr c 2 1 := by revert c; decide
theorem dev10_eq (c : Dev nD) : (⟨k0_dev10 c, k0_dev10_lt c⟩ : Dev nD) = pr c 0 2 := by revert c; decide
theorem dev11_eq (c : Dev nD) : (⟨k0_dev11 c, k0_dev11_lt c⟩ : Dev nD) = pr c 1 2 := by revert c; decide
theorem dev12_eq (c : Dev nD) : (⟨k0_dev12 c, k0_dev12_lt c⟩ : Dev nD) = pr c 2 2 := by revert c; decide
theorem dev13_eq (c : Dev nD) : (⟨k0_dev13 c, k0_dev13_lt c⟩ : Dev nD) = pr c 0 3 := by revert c; decide
theorem dev14_eq (c : Dev nD) : (⟨k0_dev14 c, k0_dev14_lt c⟩ : Dev nD) = pr c 1 3 := by revert c; decide
theorem dev15_eq (c : Dev nD) : (⟨k0_dev15 c, k0_dev15_lt c⟩ : Dev nD) = pr c 2 3 := by revert c; decide
theorem dev16_eq (c : Dev nD) : (⟨k0_dev16 c, k0_dev16_lt c⟩ : Dev nD) = pr c 0 4 := by revert c; decide
theorem dev17_eq (c : Dev nD) : (⟨k0_dev17 c, k0_dev17_lt c⟩ : Dev nD) = pr c 1 4 := by revert c; decide
theorem dev18_eq (c : Dev nD) : (⟨k0_dev18 c, k0_dev18_lt c⟩ : Dev nD) = pr c 2 4 := by revert c; decide
theorem dev19_eq (c : Dev nD) : (⟨k0_dev19 c, k0_dev19_lt c⟩ : Dev nD) = pr c 0 5 := by revert c; decide
theorem dev20_eq (c : Dev nD) : (⟨k0_dev20 c, k0_dev20_lt c⟩ : Dev nD) = pr c 1 5 := by revert c; decide
theorem dev21_eq (c : Dev nD) : (⟨k0_dev21 c, k0_dev21_lt c⟩ : Dev nD) = pr c 2 5 := by revert c; decide

/-! ## The printed row offsets -/

theorem off1_eq (c : Dev nD) : k0_off1 c = ![so c 0 0, 0] := by revert c; decide
theorem off2_eq (c : Dev nD) : k0_off2 c = ![so c 0 0, 0] := by revert c; decide
theorem off3_eq (c : Dev nD) : k0_off3 c = ![so c 0 0, 0] := by revert c; decide
theorem off4_eq (c : Dev nD) : k0_off4 c = ![so c 1 0, 0] := by revert c; decide
theorem off5_eq (c : Dev nD) : k0_off5 c = ![so c 1 0, 0] := by revert c; decide
theorem off6_eq (c : Dev nD) : k0_off6 c = ![so c 1 0, 0] := by revert c; decide
theorem off7_eq (c : Dev nD) : k0_off7 c = ![so c 2 0, 0] := by revert c; decide
theorem off8_eq (c : Dev nD) : k0_off8 c = ![so c 2 0, 0] := by revert c; decide
theorem off9_eq (c : Dev nD) : k0_off9 c = ![so c 2 0, 0] := by revert c; decide
theorem off10_eq (c : Dev nD) : k0_off10 c = ![so c 0 0, 0] := by revert c; decide
theorem off11_eq (c : Dev nD) : k0_off11 c = ![so c 1 0, 0] := by revert c; decide
theorem off12_eq (c : Dev nD) : k0_off12 c = ![so c 2 0, 0] := by revert c; decide
theorem off13_eq (c : Dev nD) : k0_off13 c = ![so c 0 1, 0] := by revert c; decide
theorem off14_eq (c : Dev nD) : k0_off14 c = ![so c 0 1, 0] := by revert c; decide
theorem off15_eq (c : Dev nD) : k0_off15 c = ![so c 0 1, 0] := by revert c; decide
theorem off16_eq (c : Dev nD) : k0_off16 c = ![so c 1 1, 0] := by revert c; decide
theorem off17_eq (c : Dev nD) : k0_off17 c = ![so c 1 1, 0] := by revert c; decide
theorem off18_eq (c : Dev nD) : k0_off18 c = ![so c 1 1, 0] := by revert c; decide
theorem off19_eq (c : Dev nD) : k0_off19 c = ![so c 2 1, 0] := by revert c; decide
theorem off20_eq (c : Dev nD) : k0_off20 c = ![so c 2 1, 0] := by revert c; decide
theorem off21_eq (c : Dev nD) : k0_off21 c = ![so c 2 1, 0] := by revert c; decide
theorem off22_eq (c : Dev nD) : k0_off22 c = ![cr 0 0 + (oQ c 0 - o0 c 0), 0] := by revert c; decide
theorem off23_eq (c : Dev nD) : k0_off23 c = ![cr 1 0 + (oQ c 1 - o0 c 1), 0] := by revert c; decide
theorem off24_eq (c : Dev nD) : k0_off24 c = ![cr 2 0 + (oQ c 2 - o0 c 2), 0] := by revert c; decide
theorem off25_eq (c : Dev nD) : k0_off25 c = ![so c 0 1, 0] := by revert c; decide
theorem off26_eq (c : Dev nD) : k0_off26 c = ![so c 1 1, 0] := by revert c; decide
theorem off27_eq (c : Dev nD) : k0_off27 c = ![so c 2 1, 0] := by revert c; decide
theorem off28_eq (c : Dev nD) : k0_off28 c = ![o1 c 0, 0] := by revert c; decide
theorem off29_eq (c : Dev nD) : k0_off29 c = ![o1 c 0, 0] := by revert c; decide
theorem off30_eq (c : Dev nD) : k0_off30 c = ![o1 c 0, 0] := by revert c; decide
theorem off31_eq (c : Dev nD) : k0_off31 c = ![o1 c 1, 0] := by revert c; decide
theorem off32_eq (c : Dev nD) : k0_off32 c = ![o1 c 1, 0] := by revert c; decide
theorem off33_eq (c : Dev nD) : k0_off33 c = ![o1 c 1, 0] := by revert c; decide
theorem off34_eq (c : Dev nD) : k0_off34 c = ![o1 c 2, 0] := by revert c; decide
theorem off35_eq (c : Dev nD) : k0_off35 c = ![o1 c 2, 0] := by revert c; decide
theorem off36_eq (c : Dev nD) : k0_off36 c = ![o1 c 2, 0] := by revert c; decide
theorem off37_eq (c : Dev nD) : k0_off37 c = ![cr 0 0 + (o1 c 0 - o0 c 0), 0] := by revert c; decide
theorem off38_eq (c : Dev nD) : k0_off38 c = ![cr 1 0 + (o1 c 1 - o0 c 1), 0] := by revert c; decide
theorem off39_eq (c : Dev nD) : k0_off39 c = ![cr 2 0 + (o1 c 2 - o0 c 2), 0] := by revert c; decide
theorem off40_eq (c : Dev nD) : k0_off40 c = ![so c 0 2, 0] := by revert c; decide
theorem off41_eq (c : Dev nD) : k0_off41 c = ![cr 0 1 + (oE c 0 - o1 c 0), 0] := by revert c; decide
theorem off42_eq (c : Dev nD) : k0_off42 c = ![so c 1 2, 0] := by revert c; decide
theorem off43_eq (c : Dev nD) : k0_off43 c = ![cr 1 1 + (oE c 1 - o1 c 1), 0] := by revert c; decide
theorem off44_eq (c : Dev nD) : k0_off44 c = ![so c 2 2, 0] := by revert c; decide
theorem off45_eq (c : Dev nD) : k0_off45 c = ![cr 2 1 + (oE c 2 - o1 c 2), 0] := by revert c; decide
theorem off46_eq (c : Dev nD) : k0_off46 c = ![so c 0 2, 0] := by revert c; decide
theorem off47_eq (c : Dev nD) : k0_off47 c = ![so c 1 2, 0] := by revert c; decide
theorem off48_eq (c : Dev nD) : k0_off48 c = ![so c 2 2, 0] := by revert c; decide
theorem off49_eq (c : Dev nD) : k0_off49 c = ![o2 c 0, 0] := by revert c; decide
theorem off50_eq (c : Dev nD) : k0_off50 c = ![cr 0 1 + (o2 c 0 - o1 c 0), 0] := by revert c; decide
theorem off51_eq (c : Dev nD) : k0_off51 c = ![o2 c 1, 0] := by revert c; decide
theorem off52_eq (c : Dev nD) : k0_off52 c = ![cr 1 1 + (o2 c 1 - o1 c 1), 0] := by revert c; decide
theorem off53_eq (c : Dev nD) : k0_off53 c = ![o2 c 2, 0] := by revert c; decide
theorem off54_eq (c : Dev nD) : k0_off54 c = ![cr 2 1 + (o2 c 2 - o1 c 2), 0] := by revert c; decide
theorem off55_eq (c : Dev nD) : k0_off55 c = ![so c 0 3, 0] := by revert c; decide
theorem off56_eq (c : Dev nD) : k0_off56 c = ![so c 1 3, 0] := by revert c; decide
theorem off57_eq (c : Dev nD) : k0_off57 c = ![so c 2 3, 0] := by revert c; decide
theorem off58_eq (c : Dev nD) : k0_off58 c = ![so c 0 4, 0] := by revert c; decide
theorem off59_eq (c : Dev nD) : k0_off59 c = ![so c 1 4, 0] := by revert c; decide
theorem off60_eq (c : Dev nD) : k0_off60 c = ![so c 2 4, 0] := by revert c; decide
theorem off61_eq (c : Dev nD) : k0_off61 c = ![so c 0 5, 0] := by revert c; decide
theorem off62_eq (c : Dev nD) : k0_off62 c = ![so c 1 5, 0] := by revert c; decide
theorem off63_eq (c : Dev nD) : k0_off63 c = ![so c 2 5, 0] := by revert c; decide

/-! ## How the row blocks fit together -/

/-- The kept rows after halving `s`: the half, the quarter, the eighth. -/
def ko (c : Dev nD) (p : Fin 3) (s : Fin 3) : ℕ := ![o0 c p, o1 c p, o2 c p] s

/-- What a partner sends at a halving step is what this device keeps there. -/
theorem so_pr (c : Dev nD) (p s : Fin 3) : so (pr c p (s.castLE (by decide))) p (s.castLE (by decide)) = ko c p s := by revert c p s; decide
/-- What this device sends at a halving step is what the partner keeps there. -/
theorem ko_pr (c : Dev nD) (p s : Fin 3) : ko (pr c p (s.castLE (by decide))) p s = so c p (s.castLE (by decide)) := by revert c p s; decide

/-- `a` and `b` are the two halves, in some order, of the `2 h` rows from `o`. -/
def Halves (o h a b : ℕ) : Prop := (a = o ∧ b = o + h) ∨ (a = o + h ∧ b = o)

instance (o h a b : ℕ) : Decidable (Halves o h a b) := by unfold Halves; infer_instance

theorem halves0 (c : Dev nD) (p : Fin 3) : Halves (R0 p) (Hs p) (oH c p) (o0 c p) := by revert c p; decide
theorem halves1 (c : Dev nD) (p : Fin 3) : Halves (o0 c p) (Qs p) (oQ c p) (o1 c p) := by revert c p; decide
theorem halves2 (c : Dev nD) (p : Fin 3) : Halves (o1 c p) (Es p) (oE c p) (o2 c p) := by revert c p; decide
theorem Hs_eq (p : Fin 3) : Hs p = 2 * Qs p := by revert p; decide
theorem Qs_eq (p : Fin 3) : Qs p = 2 * Es p := by revert p; decide
theorem R0_end (p : Fin 3) : R0 p + 2 * Hs p = ![704, 1408, 2048] p := by revert p; decide

/-- The part a row lies in. -/
def qp (i : ℕ) : Fin 3 := if i < 704 then 0 else if i < 1408 then 1 else 2

theorem qp_of {i : ℕ} {p : Fin 3} (h1 : R0 p ≤ i) (h2 : i < R0 p + 2 * Hs p) : qp i = p := by
  unfold qp; fin_cases p <;> simp [R0, Hs] at h1 h2 ⊢ <;> (try split_ifs) <;> first | rfl | omega

theorem qp_mem {i : ℕ} (h : i < 2048) : R0 (qp i) ≤ i ∧ i < R0 (qp i) + 2 * Hs (qp i) := by
  unfold qp; split_ifs <;> simp [R0, Hs] <;> omega

/-- The three blocks a device computes a part in: the half it gives away, the quarter it gives away, the quarter it keeps. -/
def ro (c : Dev nD) (p : Fin 3) (t : Fin 3) : ℕ := ![oH c p, oQ c p, o1 c p] t
def rz (p : Fin 3) (t : Fin 3) : ℕ := ![Hs p, Qs p, Qs p] t

/-- Which of a device's three blocks of its part a row lies in. -/
def kd (c : Dev nD) (i : ℕ) : Fin 3 :=
  if oH c (qp i) ≤ i ∧ i < oH c (qp i) + Hs (qp i) then 0
  else if oQ c (qp i) ≤ i ∧ i < oQ c (qp i) + Qs (qp i) then 1 else 2

theorem ro_in (c : Dev nD) (p t : Fin 3) : R0 p ≤ ro c p t ∧ ro c p t + rz p t ≤ R0 p + 2 * Hs p := by revert c p t; decide

theorem qp_ro {c : Dev nD} {p t : Fin 3} {i : ℕ} (h1 : ro c p t ≤ i) (h2 : i < ro c p t + rz p t) : qp i = p :=
  qp_of (by have := ro_in c p t; omega) (by have := ro_in c p t; omega)

theorem kd_ro {c : Dev nD} {p t : Fin 3} {i : ℕ} (h1 : ro c p t ≤ i) (h2 : i < ro c p t + rz p t) : kd c i = t := by
  have hp := qp_ro h1 h2
  have e0 := halves0 c p; have e1 := halves1 c p; have hq := Hs_eq p
  unfold Halves at e0 e1
  unfold kd; rw [hp]
  fin_cases t <;> simp [ro, rz] at h1 h2 ⊢ <;> (try split_ifs) <;> first | rfl | omega

theorem kd_mem {c : Dev nD} {i : ℕ} (h : i < 2048) : ro c (qp i) (kd c i) ≤ i ∧ i < ro c (qp i) (kd c i) + rz (qp i) (kd c i) := by
  have hm := qp_mem h
  have e0 := halves0 c (qp i); have e1 := halves1 c (qp i); have hq := Hs_eq (qp i)
  unfold Halves at e0 e1
  unfold kd; split_ifs <;> simp [ro, rz] <;> omega

/-- The device that holds a row after the last halving. -/
def own (i : ℕ) : Dev nD :=
  if h : ∃ d : Dev nD, o2 d (qp i) ≤ i ∧ i < o2 d (qp i) + Es (qp i) then h.choose else 0

theorem o2_in (c : Dev nD) (p : Fin 3) : R0 p ≤ o2 c p ∧ o2 c p + Es p ≤ R0 p + 2 * Hs p := by revert c p; decide
theorem o2_sep (c d : Dev nD) (p : Fin 3) (h : c ≠ d) : o2 c p + Es p ≤ o2 d p ∨ o2 d p + Es p ≤ o2 c p := by revert c d p h; decide

theorem own_eq {c : Dev nD} {p : Fin 3} {i : ℕ} (h1 : o2 c p ≤ i) (h2 : i < o2 c p + Es p) : own i = c := by
  have hp : qp i = p := qp_of (by have := o2_in c p; omega) (by have := o2_in c p; omega)
  have hex : ∃ d : Dev nD, o2 d (qp i) ≤ i ∧ i < o2 d (qp i) + Es (qp i) := ⟨c, by rw [hp]; exact ⟨h1, h2⟩⟩
  unfold own; rw [dif_pos hex]
  have hc := hex.choose_spec
  subst hp
  by_contra hne
  have := o2_sep _ _ (qp i) hne
  omega

/-! ## The order of the sends -/

/-- The part and step of send number `j`. -/
def ps (j : ℕ) : Fin 3 × Fin 6 := (⟨j % 3, Nat.mod_lt _ (by decide)⟩, ⟨j / 3 % 6, Nat.mod_lt _ (by decide)⟩)

/-- The part and step of DMA semaphore number `n` of its array. -/
def pp (n : ℕ) : Fin 3 := ⟨n / 6 % 3, Nat.mod_lt _ (by decide)⟩
def ss (n : ℕ) : Fin 6 := ⟨n % 6, Nat.mod_lt _ (by decide)⟩
theorem pp_eq (p : Fin 3) (s : Fin 6) : pp (6 * p.val + s.val) = p := by revert p s; decide
theorem ss_eq (p : Fin 3) (s : Fin 6) : ss (6 * p.val + s.val) = s := by revert p s; decide

end Cert.KernelIdeal.Run

end
-- ==== Proof.KernelIdeal.Contents.lean ====
/- The contents of the kernel's buffers during the exchange, as functions of the memory at launch, for any
   float values: the weights of a device's own experts, its partial result, the partly reduced results, the
   result. -/
module

public import proofs.«01_k».proof.Proof.KernelIdeal.Geo

@[expose] public section

set_option maxRecDepth 16384

noncomputable section

namespace Cert.KernelIdeal.Run

open Idealize.ShloMosaic Idealize.ShloMosaic.TcCoe Cert.KernelIdeal.Gen

variable {F : FTy → Type} [FloatOps F]

/-! ## Row blocks -/

/-- Rows `o`, `o + 1`, … of an array, `n` of them. -/
def rowsOf {M N : ℕ} {e : EltTy} [NeZero M] (o n : ℕ) (X : Vec F ⟨2, ![M, N]⟩ e) : Vec F ⟨2, ![n, N]⟩ e :=
  fun j => X (Shape.pair (d := ![M, N]) (Fin.ofNat M (o + (j 0).val)) (j 1))

/-- The array whose rows from `o` are the block `v`. -/
def place {M N : ℕ} {e : EltTy} (o n : ℕ) (hn : 0 < n) (v : Vec F ⟨2, ![n, N]⟩ e) : Vec F ⟨2, ![M, N]⟩ e :=
  fun j => v (Shape.pair (d := ![n, N]) ⟨((j 0).val - o) % n, Nat.mod_lt _ hn⟩ (j 1))

/-! ## One block of the partial result -/

/-- The shape facts one block's arithmetic takes. -/
structure BlkOk (n : ℕ) : Prop where
  pos : 0 < n
  scx : (⟨2, ![n, 512]⟩ : Shape).ShapeCasts ⟨2, ![n, 512]⟩
  sco : (⟨2, ![n, 1024]⟩ : Shape).ShapeCasts ⟨2, ![n, 1024]⟩
  sl : ∀ e : Fin 8, (⟨2, ![n, 8]⟩ : Shape).Slices ![0, e.val] ⟨2, ![n, 1]⟩
  br : (⟨2, ![n, 1]⟩ : Shape).Broadcasts ⟨2, ![n, 512]⟩

theorem blkOk_352 : BlkOk 352 := ⟨by decide, by decide, by decide, by decide, by decide⟩
theorem blkOk_320 : BlkOk 320 := ⟨by decide, by decide, by decide, by decide, by decide⟩
theorem blkOk_176 : BlkOk 176 := ⟨by decide, by decide, by decide, by decide, by decide⟩
theorem blkOk_160 : BlkOk 160 := ⟨by decide, by decide, by decide, by decide, by decide⟩

theorem blkOk_rz : ∀ p t : Fin 3, BlkOk (rz p t)
  | 0, 0 => blkOk_352 | 1, 0 => blkOk_352 | 2, 0 => blkOk_320
  | 0, 1 => blkOk_176 | 1, 1 => blkOk_176 | 2, 1 => blkOk_160
  | 0, 2 => blkOk_176 | 1, 2 => blkOk_176 | 2, 2 => blkOk_160

/-- One expert's share of a block: the rows weighted by that expert's weight, times its matrix. -/
def mmTerm (n : ℕ) (h : BlkOk n) (xs : FVec F ⟨2, ![n, 512]⟩ .f32) (ws : Vec F ⟨2, ![n, 8]⟩ .f32) (e : Fin 8) (w : Vec F S1x512x1024 .f32) :
    FVec F ⟨2, ![n, 1024]⟩ .f32 :=
  matmul (DotDims.plain n 512 1024) none
    (mulf xs (broadcastTo ⟨2, ![n, 512]⟩ (extractStridedSlice ⟨2, ![n, 1]⟩ ![0, e.val] ws (h.sl e)) h.br))
    (shapeCast S512x1024 w shapeCasts_S1x512x1024_S512x1024) (constant ⟨2, ![n, 1024]⟩ .f32 0x00000000#32)

/-- A block of the partial result before narrowing: the eight experts' shares added in order. -/
def blk32 (n : ℕ) (h : BlkOk n) (xs : FVec F ⟨2, ![n, 512]⟩ .f32) (ws : Vec F ⟨2, ![n, 8]⟩ .f32) (w : Fin 8 → Vec F S1x512x1024 .f32) :
    FVec F ⟨2, ![n, 1024]⟩ .f32 :=
  addf (addf (addf (addf (addf (addf (addf (mmTerm n h xs ws 0 (w 0)) (mmTerm n h xs ws 1 (w 1))) (mmTerm n h xs ws 2 (w 2))) (mmTerm n h xs ws 3 (w 3)))
    (mmTerm n h xs ws 4 (w 4))) (mmTerm n h xs ws 5 (w 5))) (mmTerm n h xs ws 6 (w 6))) (mmTerm n h xs ws 7 (w 7))

/-- A block of the partial result, narrowed, from the rows of `x` and of the weights. -/
def blk (n : ℕ) (h : BlkOk n) (xs : Vec F ⟨2, ![n, 512]⟩ .f32) (ws : Vec F ⟨2, ![n, 8]⟩ .f32) (w : Fin 8 → Vec F S1x512x1024 .f32) :
    FVec F ⟨2, ![n, 1024]⟩ .bf16 :=
  shapeCast ⟨2, ![n, 1024]⟩ (truncf .bf16 (blk32 n h (shapeCast ⟨2, ![n, 512]⟩ xs h.scx) ws w) bitsLt_bf16_f32) h.sco

/-! ## The weights of a device's own experts -/

/-- Column `e` of the weights: a row's first weight if its first expert is expert `e` of device word `v2`, plus the
    second likewise. -/
def wcol (v2 : BitVec 32) (v18 v20 : IVec S2048x1 32) (v35 v36 : FVec F S2048x1 .f32) (e : ℕ) : FVec F S2048x1 .f32 :=
  shapeCast S2048x1
    (addf (select (cmpi .eq v18 (broadcast S2048x1 (Scalar.addi (Scalar.muli v2 8#32) (BitVec.ofNat 32 e)))) v35 (broadcast S2048x1 (Scalar.ofBits .f32 0x00000000#32)))
      (select (cmpi .eq v20 (broadcast S2048x1 (Scalar.addi (Scalar.muli v2 8#32) (BitVec.ofNat 32 e)))) v36 (broadcast S2048x1 (Scalar.ofBits .f32 0x00000000#32))))
    shapeCasts_S2048x1_S2048x1

/-- The device word the kernel computes its experts' numbers from. -/
def dw (c : Dev nD) : BitVec 32 := Scalar.remsi (Scalar.divsi (Dev.word c) 1#32) 8#32

/-- Column `k` of the routing indices. -/
def idxCol (X : Vec F S2048x2 .i32) (k : Fin 2) : Vec F S2048x1 .i32 := fun j => X (Shape.pair (d := ![2048, 2]) (j 0) k)

/-- The weights of device `c`'s experts, from `x`, the router's matrix and the routing indices. -/
def wOf (c : Dev nD) (X : Vec F S2048x512 .f32) (Rw : Vec F S512x64 .f32) (Ix : Vec F S2048x2 .i32) : Vec F S2048x8 .f32 :=
  fun j => wcol (dw c) (k0_pay3 (idxCol Ix 0)) (k0_pay4 (idxCol Ix 1)) (k0_pay8 X Rw (idxCol Ix 0) (idxCol Ix 1)) (k0_pay9 X Rw (idxCol Ix 0) (idxCol Ix 1))
    (j 1).val (Shape.pair (d := ![2048, 1]) (j 0) (0 : Fin 1))

/-- Expert `e` of a device's block of experts. -/
theorem inb_ex : ∀ e : Fin 8, ∀ a, (![e.val, 0, 0] : Fin 3 → Nat) a + S1x512x1024.size a ≤ S8x512x1024.size a := by decide

def exW (E : Vec F S8x512x1024 .f32) (e : Fin 8) : Vec F S1x512x1024 .f32 :=
  (Memref.whole cc0_stg3_0 : Memref sig .tc .vmem S8x512x1024 .f32).view.readAt (Elt F)
    (Rect.unit (s := S8x512x1024) ![e.val, 0, 0] S1x512x1024.size (inb_ex e)).toLoadRect E

/-! ## The buffers -/

variable (m : (ℓ : Loc nD τ sig) → Buf (Elt F) ℓ)

/-- The staged blocks of the four arguments. -/
def xS (c : Dev nD) : Vec F S2048x512 .f32 := (win0_0.blk (0 : Fin 1)).view.read (Elt F) (m ((c : Thread nD τ).loc main_arg0))
def rS (c : Dev nD) : Vec F S512x64 .f32 := (win0_1.blk (0 : Fin 1)).view.read (Elt F) (m ((c : Thread nD τ).loc main_arg1))
def iS (c : Dev nD) : Vec F S2048x2 .i32 := (win0_2.blk (0 : Fin 1)).view.read (Elt F) (m ((c : Thread nD τ).loc main_arg2))
def eS (c : Dev nD) : Vec F S8x512x1024 .f32 := (win0_3.blk (0 : Fin 1)).view.read (Elt F) (m ((c : Thread nD τ).loc main_arg3))

/-- The weights device `c` computes with. -/
def wS (c : Dev nD) : Vec F S2048x8 .f32 := wOf c (xS m c) (rS m c) (iS m c)

/-- Block `t` of part `p` of device `c`'s partial result. -/
def blkS (c : Dev nD) (p t : Fin 3) : FVec F ⟨2, ![rz p t, 1024]⟩ .bf16 :=
  blk (rz p t) (blkOk_rz p t) (rowsOf (ro c p t) (rz p t) (xS m c)) (rowsOf (ro c p t) (rz p t) (wS m c)) (exW (eS m c))

/-- Device `c`'s partial result. -/
def P (c : Dev nD) : Vec F S2048x1024 .bf16 := fun j =>
  place (ro c (qp (j 0).val) (kd c (j 0).val)) (rz (qp (j 0).val) (kd c (j 0).val)) (blkOk_rz _ _).pos (blkS m c (qp (j 0).val) (kd c (j 0).val)) j

theorem P_eq (c : Dev nD) (p t : Fin 3) (j : S2048x1024.Idx) (h1 : ro c p t ≤ (j 0).val) (h2 : (j 0).val < ro c p t + rz p t) :
    P m c j = place (ro c p t) (rz p t) (blkOk_rz p t).pos (blkS m c p t) j := by
  have key : ∀ p' t' : Fin 3, p' = p → t' = t → place (F := F) (M := 2048) (N := 1024) (e := .bf16) (ro c p' t') (rz p' t') (blkOk_rz p' t').pos (blkS m c p' t') j
      = place (F := F) (M := 2048) (N := 1024) (e := .bf16) (ro c p t) (rz p t) (blkOk_rz p t).pos (blkS m c p t) j := by rintro _ _ rfl rfl; rfl
  exact key _ _ (qp_ro h1 h2) (kd_ro h1 h2)

/-- The sum the kernel takes: widened, added, narrowed. -/
def addv {s : Shape} (a b : FVec F s .bf16) : FVec F s .bf16 := truncf .bf16 (addf (extf .f32 a bitsLt_bf16_f32) (extf .f32 b bitsLt_bf16_f32)) bitsLt_bf16_f32

/-- The partly reduced result of device `c` before halving step `s`. -/
def wv : ℕ → Dev nD → Vec F S2048x1024 .bf16
  | 0, c => P m c
  | s + 1, c => addv (wv s c) (fun j => wv s (pa c (qp (j 0).val + ⟨s % 3, Nat.mod_lt _ (by decide)⟩)) j)

/-- The reduced result: each row as the device that ends up with it computes it. -/
def fin : Vec F S2048x1024 .bf16 := fun j => wv m 3 (own (j 0).val) j

/-- The kernel's result: every device's. -/
def outS : Vec F S2048x1024 .f32 := k0_pay1 (fin m)

/-- Rows from `a` of a `2048`-row array moved to rows from `k` of the landing buffer. -/
def sh (k a : ℕ) (f : Vec F S2048x1024 .bf16) : Vec F S1792x1024 .bf16 :=
  fun j => f (Shape.pair (d := ![2048, 1024]) (Fin.ofNat 2048 ((j 0).val + a - k)) (j 1))

end Cert.KernelIdeal.Run

end
-- ==== Proof.KernelIdeal.Mem.lean ====
/- Row blocks of the working buffer and of the landing buffer as points-to facts: splitting and joining them, and what
   a load, a store or a transfer through a row window reads or leaves. -/
module

public import proofs.«01_k».proof.Proof.KernelIdeal.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The buffers -/

abbrev xM : Memref sig .tc .vmem S2048x512 .f32 := Memref.whole cc0_stg0_0
abbrev gM : Memref sig .tc .vmem S512x64 .f32 := Memref.whole cc0_stg1_0
abbrev iM : Memref sig .tc .vmem S2048x2 .i32 := Memref.whole cc0_stg2_0
abbrev eM : Memref sig .tc .vmem S8x512x1024 .f32 := Memref.whole cc0_stg3_0
abbrev oM : Memref sig .tc .vmem S2048x1024 .f32 := Memref.whole cc0_stg4_0
abbrev wM : Memref sig .tc .vmem S2048x8 .f32 := Memref.whole cc0_scratch0
abbrev kM : Memref sig .tc .vmem S2048x1024 .bf16 := Memref.whole cc0_scratch1
abbrev cM : Memref sig .tc .vmem S1792x1024 .bf16 := Memref.whole cc0_scratch2

/-- `n` rows from `a`, as a set of indices. -/
def rows (M N a n : ℕ) : Finset (⟨2, ![M, N]⟩ : Shape).Idx := Finset.univ.filter fun j => a ≤ (j 0).val ∧ (j 0).val < a + n

theorem mem_rows {M N a n : ℕ} {j : (⟨2, ![M, N]⟩ : Shape).Idx} : j ∈ rows M N a n ↔ a ≤ (j 0).val ∧ (j 0).val < a + n := by
  simp [rows]

theorem unit_rows {M N a n : ℕ} {off : Fin 2 → ℕ} (h : off = ![a, 0]) (inb) :
    (Rect.unit (s := ⟨2, ![M, N]⟩) off (⟨2, ![n, N]⟩ : Shape).size inb).set = rows M N a n := by
  subst h; ext j; rw [Rect.mem_set_unit, mem_rows]
  constructor
  · intro h; exact h 0
  · intro h b; fin_cases b
    · exact h
    · exact ⟨Nat.zero_le _, by have : (j 1).val < N := (j 1).isLt; show (j 1).val < 0 + N; omega⟩

/-- Device `c`'s `n` rows from `a` of the working buffer, contents `f`. -/
def W (c : Dev nD) (a n : ℕ) (f : Vec F S2048x1024 .bf16) : sProp 𝕄 :=
  (kM : Memref sig .tc .vmem S2048x1024 .bf16).view.loc (c : Thread nD τ) ↦[rows 2048 1024 a n]{fullShare} f
/-- Device `c`'s `n` rows from `a` of the landing buffer, contents `f`. -/
def C (c : Dev nD) (a n : ℕ) (f : Vec F S1792x1024 .bf16) : sProp 𝕄 :=
  (cM : Memref sig .tc .vmem S1792x1024 .bf16).view.loc (c : Thread nD τ) ↦[rows 1792 1024 a n]{fullShare} f

instance W_storable (c : Dev nD) (a n : ℕ) (f) : BI.Storable (upEmb : UEmb _ 𝕄) (W (F := F) c a n f) := by unfold W; infer_instance
instance C_storable (c : Dev nD) (a n : ℕ) (f) : BI.Storable (upEmb : UEmb _ 𝕄) (C (F := F) c a n f) := by unfold C; infer_instance

theorem W_congr (c : Dev nD) (a n : ℕ) {f g : Vec F S2048x1024 .bf16} (h : ∀ j, a ≤ (j 0).val → (j 0).val < a + n → f j = g j) :
    W (F := F) c a n f = W c a n g := by
  unfold W; exact pointsTo_congr fun j hj => h j (mem_rows.mp hj).1 (mem_rows.mp hj).2

theorem C_congr (c : Dev nD) (a n : ℕ) {f g : Vec F S1792x1024 .bf16} (h : ∀ j, a ≤ (j 0).val → (j 0).val < a + n → f j = g j) :
    C (F := F) c a n f = C c a n g := by
  unfold C; exact pointsTo_congr fun j hj => h j (mem_rows.mp hj).1 (mem_rows.mp hj).2

theorem rows_disj {M N a n b k : ℕ} (h : a + n ≤ b ∨ b + k ≤ a) : Disjoint (rows M N a n) (rows M N b k) := by
  rw [Finset.disjoint_left]; intro j h1 h2; rw [mem_rows] at h1 h2; omega

theorem rows_union {M N a n k : ℕ} : rows M N a n ∪ rows M N (a + n) k = rows M N a (n + k) := by
  ext j; simp only [Finset.mem_union, mem_rows]; omega

theorem W_add (c : Dev nD) (a n k : ℕ) (f : Vec F S2048x1024 .bf16) : W (F := F) c a (n + k) f = iprop(W c a n f ∗ W c (a + n) k f) := by
  unfold W; rw [← rows_union]; exact (pointsTo_union (rows_disj (Or.inl le_rfl))).1.antisymm (pointsTo_union (rows_disj (Or.inl le_rfl))).2

theorem C_add (c : Dev nD) (a n k : ℕ) (f : Vec F S1792x1024 .bf16) : C (F := F) c a (n + k) f = iprop(C c a n f ∗ C c (a + n) k f) := by
  unfold C; rw [← rows_union]; exact (pointsTo_union (rows_disj (Or.inl le_rfl))).1.antisymm (pointsTo_union (rows_disj (Or.inl le_rfl))).2

/-- Two adjoining blocks of the landing buffer, whatever they hold, as one. -/
theorem C_join (c : Dev nD) (a n b k : ℕ) (hb : b = a + n) :
    iprop((∃ f, C (F := F) c a n f) ∗ (∃ f, C c b k f)) ⊢ (iprop(∃ f, C (F := F) c a (n + k) f) : sProp 𝕄) := by
  subst hb
  iintro ⟨⟨%f, H1⟩, ⟨%g, H2⟩⟩
  iexists (fun j => if (j 0).val < a + n then f j else g j)
  rw [C_add]
  isplitl [H1]
  · rw [C_congr c a n (g := f) (fun j h1 h2 => if_pos h2)]; iexact H1
  · rw [C_congr c (a + n) k (g := g) (fun j h1 h2 => if_neg (by omega))]; iexact H2

/-- A block is its two halves, in whichever order they are named. -/
theorem W_halves (c : Dev nD) {o h a b : ℕ} (H : Halves o h a b) (f : Vec F S2048x1024 .bf16) :
    W (F := F) c o (2 * h) f = iprop(W c a h f ∗ W c b h f) := by
  rw [two_mul, W_add]
  rcases H with ⟨rfl, rfl⟩ | ⟨rfl, rfl⟩
  · rfl
  · exact sep_comm.antisymm sep_comm

/-! ## Loads and stores through row windows -/

theorem emb_rows {M N a n : ℕ} [NeZero M] {off : Fin 2 → ℕ} (h : off = ![a, 0]) (inb) (x : (⟨2, ![n, N]⟩ : Shape).Idx) :
    (Rect.unit (s := ⟨2, ![M, N]⟩) off (⟨2, ![n, N]⟩ : Shape).size inb).emb x = Shape.pair (d := ![M, N]) (Fin.ofNat M (a + (x 0).val)) (x 1) := by
  subst h
  have hb : a + n ≤ M := inb 0
  have hx : (x 0).val < n := (x 0).isLt
  funext b; apply Fin.ext; rw [Rect.emb_apply]
  fin_cases b
  · show a + 1 * (x 0).val = (a + (x 0).val) % M
    rw [Nat.mod_eq_of_lt (by omega), one_mul]
  · show 0 + 1 * (x 1).val = (x 1).val
    omega

/-- An index of rows `a ≤ i < a + n` as an index of the block. -/
def blkIdx {M N : ℕ} (a n : ℕ) (hn : 0 < n) (j : (⟨2, ![M, N]⟩ : Shape).Idx) : (⟨2, ![n, N]⟩ : Shape).Idx :=
  Shape.pair (d := ![n, N]) ⟨((j 0).val - a) % n, Nat.mod_lt _ hn⟩ (j 1)

theorem emb_blkIdx {M N a n : ℕ} [NeZero M] (hn : 0 < n) {off : Fin 2 → ℕ} (h : off = ![a, 0]) (inb) (j : (⟨2, ![M, N]⟩ : Shape).Idx)
    (h1 : a ≤ (j 0).val) (h2 : (j 0).val < a + n) :
    (Rect.unit (s := ⟨2, ![M, N]⟩) off (⟨2, ![n, N]⟩ : Shape).size inb).emb (blkIdx a n hn j) = j := by
  rw [emb_rows h]
  have hj : (j 0).val < M := (j 0).isLt
  conv_rhs => rw [← Shape.pair_eta j]
  congr 1
  apply Fin.ext
  show (a + ((j 0).val - a) % n) % M = (j 0).val
  rw [Nat.mod_eq_of_lt (show (j 0).val - a < n by omega), Nat.mod_eq_of_lt (by omega)]; omega

section Steps

variable (c : Dev nD) {n : ℕ} (a : ℕ) {off : Fin 2 → ℕ} (hoff : off = ![a, 0])
include hoff

theorem ld_k {α : Type} {Q : α → sProp 𝕄} (a₀ n₀ : ℕ) (f : Vec F S2048x1024 .bf16) (h1 : a₀ ≤ a) (h2 : a + n ≤ a₀ + n₀) {inb}
    {hl : (kM : Memref sig .tc .vmem S2048x1024 .bf16).view.LoadsAt (Rect.unit (s := S2048x1024) off (⟨2, ![n, 1024]⟩ : Shape).size inb).toLoadRect}
    {k : Vec F ⟨2, ![n, 1024]⟩ .bf16 → Prog (TpuEff nD τ sig (Elt F) Λ₀ .tc) α} :
    W c a₀ n₀ f ⊢ iprop((W c a₀ n₀ f -∗ wp frame (wpE (defs₀ (F := F)) 𝒱₀ (c : Thread nD τ) none) Set.univ (k (rowsOf a n f)) Q)
      -∗ wp frame (wpE (defs₀ (F := F)) 𝒱₀ (c : Thread nD τ) none) Set.univ (.op (.load kM (Rect.unit (s := S2048x1024) off (⟨2, ![n, 1024]⟩ : Shape).size inb).toLoadRect hl) k) Q) := by
  have hr : (kM : Memref sig .tc .vmem S2048x1024 .bf16).view.readAt (Elt F) (Rect.unit (s := S2048x1024) off (⟨2, ![n, 1024]⟩ : Shape).size inb).toLoadRect f = rowsOf a n f := by
    funext x; exact congrArg f (emb_rows hoff inb x)
  unfold W
  have hs : ((kM : Memref sig .tc .vmem S2048x1024 .bf16).access (Rect.unit (s := S2048x1024) off (⟨2, ![n, 1024]⟩ : Shape).size inb) : View sig .tc _ _ _).set ⊆ rows 2048 1024 a₀ n₀ := by
    intro j hj
    have h3 := unit_rows (M := 2048) (N := 1024) (n := n) hoff inb
    have hj' := (Finset.ext_iff.mp h3 j).mp ((Finset.ext_iff.mp (View.set_slice_whole _ _) j).mp hj)
    rw [mem_rows] at hj' ⊢; omega
  rw [← hr]
  exact wp_load_rect (Q := Q) (defs := defs₀ (F := F)) 𝒱₀ (c : Thread nD τ) none Set.univ (m := kM) (hl := hl) (k := k) (q := fullShare) (f := f) hs

theorem ld_c {α : Type} {Q : α → sProp 𝕄} (a₀ n₀ : ℕ) (f : Vec F S1792x1024 .bf16) (h1 : a₀ ≤ a) (h2 : a + n ≤ a₀ + n₀) {inb}
    {hl : (cM : Memref sig .tc .vmem S1792x1024 .bf16).view.LoadsAt (Rect.unit (s := S1792x1024) off (⟨2, ![n, 1024]⟩ : Shape).size inb).toLoadRect}
    {k : Vec F ⟨2, ![n, 1024]⟩ .bf16 → Prog (TpuEff nD τ sig (Elt F) Λ₀ .tc) α} :
    C c a₀ n₀ f ⊢ iprop((C c a₀ n₀ f -∗ wp frame (wpE (defs₀ (F := F)) 𝒱₀ (c : Thread nD τ) none) Set.univ (k (rowsOf a n f)) Q)
      -∗ wp frame (wpE (defs₀ (F := F)) 𝒱₀ (c : Thread nD τ) none) Set.univ (.op (.load cM (Rect.unit (s := S1792x1024) off (⟨2, ![n, 1024]⟩ : Shape).size inb).toLoadRect hl) k) Q) := by
  have hr : (cM : Memref sig .tc .vmem S1792x1024 .bf16).view.readAt (Elt F) (Rect.unit (s := S1792x1024) off (⟨2, ![n, 1024]⟩ : Shape).size inb).toLoadRect f = rowsOf a n f := by
    funext x; exact congrArg f (emb_rows hoff inb x)
  unfold C
  have hs : ((cM : Memref sig .tc .vmem S1792x1024 .bf16).access (Rect.unit (s := S1792x1024) off (⟨2, ![n, 1024]⟩ : Shape).size inb) : View sig .tc _ _ _).set ⊆ rows 1792 1024 a₀ n₀ := by
    intro j hj
    have h3 := unit_rows (M := 1792) (N := 1024) (n := n) hoff inb
    have hj' := (Finset.ext_iff.mp h3 j).mp ((Finset.ext_iff.mp (View.set_slice_whole _ _) j).mp hj)
    rw [mem_rows] at hj' ⊢; omega
  rw [← hr]
  exact wp_load_rect (Q := Q) (defs := defs₀ (F := F)) 𝒱₀ (c : Thread nD τ) none Set.univ (m := cM) (hl := hl) (k := k) (q := fullShare) (f := f) hs

/-- A store of a block of rows: the rows hold the block placed there. -/
theorem st_k {α : Type} {Q : α → sProp 𝕄} (f g : Vec F S2048x1024 .bf16) (hn : 0 < n) {inb} (v : Vec F ⟨2, ![n, 1024]⟩ .bf16)
    (hg : ∀ j : S2048x1024.Idx, a ≤ (j 0).val → (j 0).val < a + n → g j = place (F := F) (M := 2048) (N := 1024) (e := .bf16) a n hn v j)
    {hx : ((kM : Memref sig .tc .vmem S2048x1024 .bf16).access (Rect.unit (s := S2048x1024) off (⟨2, ![n, 1024]⟩ : Shape).size inb)).Stores Finset.univ} {hm}
    {k : PUnit → Prog (TpuEff nD τ sig (Elt F) Λ₀ .tc) α} :
    W c a n f ⊢ iprop((W c a n g -∗ wp frame (wpE (defs₀ (F := F)) 𝒱₀ (c : Thread nD τ) none) Set.univ (k ⟨⟩) Q)
      -∗ wp frame (wpE (defs₀ (F := F)) 𝒱₀ (c : Thread nD τ) none) Set.univ
          (.op (.store kM (Rect.unit (s := S2048x1024) off (⟨2, ![n, 1024]⟩ : Shape).size inb) v Finset.univ hx hm) k) Q) := by
  have hs := unit_rows (M := 2048) (N := 1024) (n := n) hoff inb
  have hset : ((kM : Memref sig .tc .vmem S2048x1024 .bf16).access (Rect.unit (s := S2048x1024) off (⟨2, ![n, 1024]⟩ : Shape).size inb) : View sig .tc _ _ _).setOn Finset.univ
      = rows 2048 1024 a n := (View.set_slice_whole _ _).trans hs
  have hw : W c a n g = W c a n (((kM : Memref sig .tc .vmem S2048x1024 .bf16).access (Rect.unit (s := S2048x1024) off (⟨2, ![n, 1024]⟩ : Shape).size inb) : View sig .tc _ _ _).write (Elt F) f v Finset.univ) := by
    refine W_congr c a n fun j h1 h2 => ?_
    rw [hg j h1 h2]
    conv_rhs => rw [← emb_blkIdx hn hoff inb j h1 h2]
    exact (View.write_emb_of_mem (v := ((kM : Memref sig .tc .vmem S2048x1024 .bf16).access (Rect.unit (s := S2048x1024) off (⟨2, ![n, 1024]⟩ : Shape).size inb) : View sig .tc _ _ _)) (Val := Elt F) f v (Finset.mem_univ _)).symm
  rw [hw]
  unfold W
  have hsub : ((kM : Memref sig .tc .vmem S2048x1024 .bf16).access (Rect.unit (s := S2048x1024) off (⟨2, ![n, 1024]⟩ : Shape).size inb) : View sig .tc _ _ _).setOn Finset.univ ⊆ rows 2048 1024 a n := Finset.subset_of_eq hset
  exact wp_store (Q := Q) (defs := defs₀ (F := F)) 𝒱₀ (c : Thread nD τ) none Set.univ (m := kM) (r := Rect.unit (s := S2048x1024) off (⟨2, ![n, 1024]⟩ : Shape).size inb) (w := v) (Mk := Finset.univ) (hx := hx) (hm := hm) (k := k) (f := f) hsub

/-- Rows of a buffer held whole, by its staged array. -/
theorem ld_x {α : Type} {Q : α → sProp 𝕄} (f : Vec F S2048x512 .f32) {inb}
    {hl : (xM : Memref sig .tc .vmem S2048x512 .f32).view.LoadsAt (Rect.unit (s := S2048x512) off (⟨2, ![n, 512]⟩ : Shape).size inb).toLoadRect}
    {k : Vec F ⟨2, ![n, 512]⟩ .f32 → Prog (TpuEff nD τ sig (Elt F) Λ₀ .tc) α} :
    (((c : Thread nD τ).loc cc0_stg0_0) ↦{fullShare} f : sProp 𝕄) ⊢ iprop(((((c : Thread nD τ).loc cc0_stg0_0) ↦{fullShare} f) -∗ wp frame (wpE (defs₀ (F := F)) 𝒱₀ (c : Thread nD τ) none) Set.univ (k (rowsOf a n f)) Q)
      -∗ wp frame (wpE (defs₀ (F := F)) 𝒱₀ (c : Thread nD τ) none) Set.univ (.op (.load xM (Rect.unit (s := S2048x512) off (⟨2, ![n, 512]⟩ : Shape).size inb).toLoadRect hl) k) Q) := by
  have hr : (xM : Memref sig .tc .vmem S2048x512 .f32).view.readAt (Elt F) (Rect.unit (s := S2048x512) off (⟨2, ![n, 512]⟩ : Shape).size inb).toLoadRect f = rowsOf a n f := by
    funext x; exact congrArg f (emb_rows hoff inb x)
  rw [← hr]
  exact wp_load 𝒱₀ (c : Thread nD τ) none Set.univ (m := xM) (Finset.subset_univ _)

theorem ld_w {α : Type} {Q : α → sProp 𝕄} (f : Vec F S2048x8 .f32) {inb}
    {hl : (wM : Memref sig .tc .vmem S2048x8 .f32).view.LoadsAt (Rect.unit (s := S2048x8) off (⟨2, ![n, 8]⟩ : Shape).size inb).toLoadRect}
    {k : Vec F ⟨2, ![n, 8]⟩ .f32 → Prog (TpuEff nD τ sig (Elt F) Λ₀ .tc) α} :
    (((c : Thread nD τ).loc cc0_scratch0) ↦{fullShare} f : sProp 𝕄) ⊢ iprop(((((c : Thread nD τ).loc cc0_scratch0) ↦{fullShare} f) -∗ wp frame (wpE (defs₀ (F := F)) 𝒱₀ (c : Thread nD τ) none) Set.univ (k (rowsOf a n f)) Q)
      -∗ wp frame (wpE (defs₀ (F := F)) 𝒱₀ (c : Thread nD τ) none) Set.univ (.op (.load wM (Rect.unit (s := S2048x8) off (⟨2, ![n, 8]⟩ : Shape).size inb).toLoadRect hl) k) Q) := by
  have hr : (wM : Memref sig .tc .vmem S2048x8 .f32).view.readAt (Elt F) (Rect.unit (s := S2048x8) off (⟨2, ![n, 8]⟩ : Shape).size inb).toLoadRect f = rowsOf a n f := by
    funext x; exact congrArg f (emb_rows hoff inb x)
  rw [← hr]
  exact wp_load 𝒱₀ (c : Thread nD τ) none Set.univ (m := wM) (Finset.subset_univ _)

end Steps

/-- One expert's matrix out of the staged block of experts. -/
theorem ld_e (c : Dev nD) {α : Type} {Q : α → sProp 𝕄} (e : Fin 8) (f : Vec F S8x512x1024 .f32) {off : Fin 3 → ℕ} (hoff : off = ![e.val, 0, 0]) {inb}
    {hl : (eM : Memref sig .tc .vmem S8x512x1024 .f32).view.LoadsAt (Rect.unit (s := S8x512x1024) off S1x512x1024.size inb).toLoadRect}
    {k : Vec F S1x512x1024 .f32 → Prog (TpuEff nD τ sig (Elt F) Λ₀ .tc) α} :
    (((c : Thread nD τ).loc cc0_stg3_0) ↦{fullShare} f : sProp 𝕄) ⊢ iprop(((((c : Thread nD τ).loc cc0_stg3_0) ↦{fullShare} f) -∗ wp frame (wpE (defs₀ (F := F)) 𝒱₀ (c : Thread nD τ) none) Set.univ (k (exW f e)) Q)
      -∗ wp frame (wpE (defs₀ (F := F)) 𝒱₀ (c : Thread nD τ) none) Set.univ (.op (.load eM (Rect.unit (s := S8x512x1024) off S1x512x1024.size inb).toLoadRect hl) k) Q) := by
  subst hoff
  exact wp_load 𝒱₀ (c : Thread nD τ) none Set.univ (m := eM) (Finset.subset_univ _)

end Cert.KernelIdeal.Run

end
-- ==== Proof.KernelIdeal.Proto.lean ====
/- The exchange's protocol: its semaphore cells, what each delivers, what each device owes and at which levels. -/
module

public import proofs.«01_k».proof.Proof.KernelIdeal.Mem

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Semaphores and cells -/

/-- The barrier semaphore, and the send and receive semaphores of step `s` of part `p`. -/
abbrev barS : Sem sig := (SemArray.scalar (sig.barrier 0 rfl) : Sems sig S_).sem
set_option backward.proofsInPublic true in
def sD (p : Fin 3) (s : Fin 6) : DmaSem sig := ⟨5 + (6 * p.val + s.val), by have := p.isLt; have := s.isLt; show _ < 41; omega⟩
set_option backward.proofsInPublic true in
def rD (p : Fin 3) (s : Fin 6) : DmaSem sig := ⟨23 + (6 * p.val + s.val), by have := p.isLt; have := s.isLt; show _ < 41; omega⟩

abbrev barCell (c : Dev nD) : GSem nD τ sig := ((c : Thread nD τ), .reg barS)
abbrev sendCell (c : Dev nD) (p : Fin 3) (s : Fin 6) : GSem nD τ sig := ((c : Thread nD τ), .dma (sD p s))
abbrev recvCell (c : Dev nD) (p : Fin 3) (s : Fin 6) : GSem nD τ sig := ((c : Thread nD τ), .dma (rD p s))

/-- The units a transfer at step `s` of part `p` raises its two semaphores by. -/
def amt (p : Fin 3) (s : Fin 6) : ℕ :=
  (kM : Memref sig .tc .vmem S2048x1024 .bf16).view.ref.dmaCredit ⟨2, ![sz p s, 1024]⟩ .bf16
theorem amt_pos (p : Fin 3) (s : Fin 6) : 0 < amt p s := by revert p s; decide

/-! ## The schedule -/

/-- A halving step among the six steps. -/
abbrev hs (s : Fin 3) : Fin 6 := s.castLE (by decide)
/-- The step of part `p` that exchanges across mask number `k`, when halving. -/
def stp (p k : Fin 3) : Fin 3 := k - p

/-- The landing rows device `c` lends to the partner across mask number `k`: one region of each part. -/
def lend (c : Dev nD) (k : Fin 3) : sProp 𝕄 :=
  iprop((∃ f, C (F := F) c (cr 0 (stp 0 k)) (sz 0 (hs (stp 0 k))) f) ∗ (∃ f, C c (cr 1 (stp 1 k)) (sz 1 (hs (stp 1 k))) f) ∗ (∃ f, C c (cr 2 (stp 2 k)) (sz 2 (hs (stp 2 k))) f))

/-- What a halving step delivers: the partner's kept rows landed, and its own rows there to write back to. -/
def rsPay (c : Dev nD) (p s : Fin 3) : sProp 𝕄 :=
  iprop(C c (cr p s) (sz p (hs s)) (sh (cr p s) (ko c p s) (wv m s.val (pr c p (hs s)))) ∗ W (pr c p (hs s)) (ko c p s) (sz p (hs s)) (wv m s.val (pr c p (hs s))))

/-- What the receive cell of step `s` of part `p` delivers. -/
def recvPay (c : Dev nD) (p : Fin 3) (s : Fin 6) : sProp 𝕄 :=
  if h : s.val < 3 then rsPay m c p ⟨s.val, h⟩ else W c (so c p ⟨5 - s.val, by omega⟩) (sz p s) (fin m)
/-- What the send cell of step `s` of part `p` delivers: at a doubling step the rows sent. -/
def sendPay (c : Dev nD) (p : Fin 3) (s : Fin 6) : sProp 𝕄 :=
  if s.val < 3 then iprop(emp) else W c (so c p s) (sz p s) (fin m)

def payOf (c : Dev nD) (sm : SemLoc sig) (k : Fin 3) : sProp 𝕄 :=
  match sm with
  | .reg s => if s = barS then lend (pa c k) k else iprop(emp)
  | .dma q => if q.val < 23 then sendPay m c (pp (q.val - 5)) (ss (q.val - 5)) else recvPay m c (pp (q.val - 23)) (ss (q.val - 23))

def dutOf (sm : SemLoc sig) : Finset (Fin 3) :=
  match sm with
  | .reg s => if s = barS then Finset.univ else ∅
  | .dma q => if 5 ≤ q.val then {0} else ∅

def amtOf (sm : SemLoc sig) : ℕ :=
  match sm with
  | .reg _ => 1
  | .dma q => if q.val < 23 then amt (pp (q.val - 5)) (ss (q.val - 5)) else amt (pp (q.val - 23)) (ss (q.val - 23))

theorem amtOf_pos (sm : SemLoc sig) : 0 < amtOf sm := by
  unfold amtOf; split
  · exact Nat.one_pos
  · split <;> exact amt_pos _ _

def Rd : Rounds.Schedule (GSem nD τ sig) (Fin 3) 𝕄 where
  duties g r := if r = 0 ∧ g.1.2 = .tc then dutOf g.2 else ∅
  unitless _ := False
  amount g _ _ := amtOf g.2
  payload g _ d := payOf m g.1.1 g.2 d
  amount_pos g _ _ _ := amtOf_pos g.2

instance lend_storable (c : Dev nD) (k : Fin 3) : BI.Storable (upEmb : UEmb _ 𝕄) (lend (F := F) c k) := by unfold lend; infer_instance
instance recvPay_storable (c : Dev nD) (p : Fin 3) (s : Fin 6) : BI.Storable (upEmb : UEmb _ 𝕄) (recvPay m c p s) := by
  unfold recvPay rsPay; split <;> infer_instance
instance sendPay_storable (c : Dev nD) (p : Fin 3) (s : Fin 6) : BI.Storable (upEmb : UEmb _ 𝕄) (sendPay m c p s) := by
  unfold sendPay; split <;> infer_instance

instance Rd_payload_storable (g : GSem nD τ sig) (r : ℕ) (d : Fin 3) :
    BI.Storable (upEmb : UEmb _ 𝕄) ((Rd (F := F) m).payload g r d) := by
  show BI.Storable upEmb (payOf m g.1.1 g.2 d)
  unfold payOf
  (repeat' split) <;> infer_instance

section Sched
variable (c : Dev nD) (p : Fin 3) (s : Fin 6)

theorem duties_tc (sm : SemLoc sig) : (Rd (F := F) m).duties ((c : Thread nD τ), sm) 0 = dutOf sm := by
  dsimp only [Rd]; exact if_pos ⟨rfl, rfl⟩
theorem duties_bar : (Rd (F := F) m).duties (barCell c) 0 = Finset.univ := by
  rw [duties_tc]; unfold dutOf; dsimp only; exact if_pos rfl
theorem duties_send : (Rd (F := F) m).duties (sendCell c p s) 0 = {0} := by
  rw [duties_tc]; unfold dutOf; dsimp only; exact if_pos (show 5 ≤ 5 + (6 * p.val + s.val) by omega)
theorem duties_recv : (Rd (F := F) m).duties (recvCell c p s) 0 = {0} := by
  rw [duties_tc]; unfold dutOf; dsimp only; exact if_pos (show 5 ≤ 23 + (6 * p.val + s.val) by omega)
theorem duties_later (g : GSem nD τ sig) : ∀ r, 1 ≤ r → (Rd (F := F) m).duties g r = ∅ :=
  fun r hr => if_neg fun h => by omega

theorem amount_bar (d : Fin 3) : (Rd (F := F) m).amount (barCell c) 0 d = 1 := rfl
theorem amount_send (d : Fin 3) : (Rd (F := F) m).amount (sendCell c p s) 0 d = amt p s := by
  have hp := p.isLt; have hs := s.isLt
  show amtOf (.dma (sD p s)) = _
  unfold amtOf; dsimp only
  rw [if_pos (show (sD p s).val < 23 by show 5 + (6 * p.val + s.val) < 23; omega)]
  rw [show (sD p s).val - 5 = 6 * p.val + s.val from Nat.add_sub_cancel_left .., pp_eq, ss_eq]
theorem amount_recv (d : Fin 3) : (Rd (F := F) m).amount (recvCell c p s) 0 d = amt p s := by
  show amtOf (.dma (rD p s)) = _
  unfold amtOf; dsimp only
  rw [if_neg (show ¬ (rD p s).val < 23 by show ¬ 23 + (6 * p.val + s.val) < 23; omega)]
  rw [show (rD p s).val - 23 = 6 * p.val + s.val from Nat.add_sub_cancel_left .., pp_eq, ss_eq]

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c p s) 0 = amt p s := by
  unfold Schedule.expect Schedule.amountOf; rw [duties_send, Finset.sum_singleton, amount_send]
theorem expect_recv : (Rd (F := F) m).expect (recvCell c p s) 0 = amt p s := by
  unfold Schedule.expect Schedule.amountOf; rw [duties_recv, Finset.sum_singleton, amount_recv]

theorem payload_bar (k : Fin 3) : (Rd (F := F) m).payload (barCell c) 0 k = lend (pa c k) k := by
  show payOf m c (.reg barS) k = _; unfold payOf; dsimp only; exact if_pos rfl
theorem payload_send (d : Fin 3) : (Rd (F := F) m).payload (sendCell c p s) 0 d = sendPay m c p s := by
  have hp := p.isLt; have hs := s.isLt
  show payOf m c (.dma (sD p s)) d = _
  unfold payOf; dsimp only
  rw [if_pos (show (sD p s).val < 23 by show 5 + (6 * p.val + s.val) < 23; omega)]
  rw [show (sD p s).val - 5 = 6 * p.val + s.val from Nat.add_sub_cancel_left .., pp_eq, ss_eq]
theorem payload_recv (d : Fin 3) : (Rd (F := F) m).payload (recvCell c p s) 0 d = recvPay m c p s := by
  show payOf m c (.dma (rD p s)) d = _
  unfold payOf; dsimp only
  rw [if_neg (show ¬ (rD p s).val < 23 by show ¬ 23 + (6 * p.val + s.val) < 23; omega)]
  rw [show (rD p s).val - 23 = 6 * p.val + s.val from Nat.add_sub_cancel_left .., pp_eq, ss_eq]

theorem rest_bar : bigSep ((Rd (F := F) m).duties (barCell c) 0 \ ∅) (fun d => (Rd (F := F) m).payload (barCell c) 0 d)
    = iprop(lend (F := F) (pa c 0) 0 ∗ lend (pa c 1) 1 ∗ lend (pa c 2) 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((Rd (F := F) m).duties (sendCell c p s) 0 \ ∅) (fun d => (Rd (F := F) m).payload (sendCell c p s) 0 d) = sendPay m c p s := by
  rw [Finset.sdiff_empty, duties_send, bigSep_singleton, payload_send]
theorem rest_recv : bigSep ((Rd (F := F) m).duties (recvCell c p s) 0 \ ∅) (fun d => (Rd (F := F) m).payload (recvCell c p s) 0 d) = recvPay m c p s := by
  rw [Finset.sdiff_empty, duties_recv, bigSep_singleton, payload_recv]

end Sched

/-! ## What a device owes; the levels -/

/-- The receive cell send number `j` of device `c` raises, and by how much. -/
def tgt (c : Dev nD) (j : ℕ) : CellTallies nD τ sig Unit :=
  tallyAt (recvCell (pr c (ps j).1 (ps j).2) (ps j).1 (ps j).2) () (amt (ps j).1 (ps j).2)

/-- What device `c` owes with its last `n` of eighteen sends to come. -/
def Ow (c : Dev nD) : ℕ → CellTallies nD τ sig Unit
  | 0 => 0
  | n + 1 => Ow c n + tgt c (17 - n)

def O₁ (c : Dev nD) : CellTallies nD τ sig Unit := Ow c 18 + tallyAt (barCell (pa c 2)) () 1
def O₂ (c : Dev nD) : CellTallies nD τ sig Unit := O₁ c + tallyAt (barCell (pa c 1)) () 1
/-- What device `c` owes at launch: its eighteen sends and one unit to each partner's barrier cell. -/
def O₀ (c : Dev nD) : CellTallies nD τ sig Unit := O₂ c + tallyAt (barCell (pa c 0)) () 1

def L (g : GSem nD τ sig) : Finset Unit := if g.1.2 = .tc then {()} else ∅
/-- Barrier cells at 1, the receive cells of step `s` at `2 + s`, everything else at 0. -/
def lvOf (sm : SemLoc sig) : ℕ :=
  match sm with
  | .reg s => if s = barS then 1 else 0
  | .dma q => if q.val < 23 then 0 else 2 + (q.val - 23) % 6
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lvOf_send (p : Fin 3) (s : Fin 6) : lvOf (.dma (sD p s)) = 0 := by revert p s; decide
theorem lvOf_recv (p : Fin 3) (s : Fin 6) : lvOf (.dma (rD p s)) = 2 + s.val := by revert p s; decide
theorem lvOf_bar : lvOf (.reg barS) = 1 := by unfold lvOf; dsimp only; exact if_pos rfl

theorem ps_snd (j : ℕ) (h : j < 18) : (ps j).2.val = j / 3 := Nat.mod_eq_of_lt (by omega)

theorem Ow_pos {c : Dev nD} {g : GSem nD τ sig} {u : Unit} : ∀ {n : ℕ}, n ≤ 18 → 0 < Ow c n g u →
    ∃ p s, g = recvCell (pr c p s) p s ∧ (18 - n) / 3 ≤ s.val
  | 0, _, h => absurd h (Nat.lt_irrefl 0)
  | n + 1, hn, h => by
    rw [Ow, Pi.add_apply, Finsupp.add_apply] at h
    by_cases h1 : 0 < Ow c n g u
    · obtain ⟨p, s, hg, hs⟩ := Ow_pos (by omega) h1
      exact ⟨p, s, hg, le_trans (Nat.div_le_div_right (by omega)) hs⟩
    · have h2 : 0 < tgt c (17 - n) g u := by omega
      unfold tgt at h2; rw [tallyAt_apply] at h2
      by_cases h3 : g = recvCell (pr c (ps (17 - n)).1 (ps (17 - n)).2) (ps (17 - n)).1 (ps (17 - n)).2 ∧ u = ()
      · refine ⟨_, _, h3.1, ?_⟩
        rw [ps_snd _ (by omega)]; exact Nat.div_le_div_right (by omega)
      · rw [if_neg h3] at h2; exact absurd h2 (Nat.lt_irrefl 0)

theorem O₀_pos {c : Dev nD} {g : GSem nD τ sig} {u : Unit} (h : 0 < O₀ c g u) :
    (∃ p s, g = recvCell (pr c p s) p s) ∨ ∃ k, g = barCell (pa c k) := by
  unfold O₀ O₂ O₁ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  obtain ⟨p, s, hg, -⟩ := Ow_pos le_rfl (show 0 < Ow c 18 g u by omega)
  exact hn.1 ⟨p, s, hg⟩

/-- A wait below every step still owed is allowed. -/
theorem mayWait_of (c : Dev nD) (sm : SemLoc sig) (n : ℕ) (hn : n ≤ 18) (h : lvOf sm < 2 + (18 - n) / 3) :
    (levAts L lv : sProp 𝕄) ⊢ MayWait (c : Thread nD τ) sm () (Ow c n) :=
  MayOwe.of_cut (L := L) (lev := lv) (lvOf sm) (fun p hp => by rw [Finset.mem_singleton.mp hp, L_tc]; exact Finset.mem_singleton_self _)
    (fun g u hg => by obtain ⟨p, s, rfl, -⟩ := Ow_pos hn hg; exact Finset.mem_singleton_self _)
    (fun p hp => by rw [Finset.mem_singleton.mp hp]; exact le_rfl)
    (fun g u hg => by
      obtain ⟨p, s, rfl, hs⟩ := Ow_pos hn hg
      show lvOf sm < lvOf (.dma (rD p s)); rw [lvOf_recv]; omega)

/-- The pipeline's own waits are below everything owed. -/
theorem mayWait_stage (c : Dev nD) (q : DmaSem sig) (hq : q.val < 23) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, s, rfl⟩ | ⟨k, rfl⟩ <;> exact Finset.mem_singleton_self _)
      (fun p hp => by rw [Finset.mem_singleton.mp hp]; show lvOf (.dma q) ≤ 0; unfold lvOf; dsimp only; rw [if_pos hq])
      (fun g u hg => by
        rcases O₀_pos hg with ⟨p, s, rfl⟩ | ⟨k, rfl⟩
        · show 0 < lvOf (.dma (rD p s)); rw [lvOf_recv]; omega
        · show 0 < lvOf (.reg barS); rw [lvOf_bar]; decide)
  · rw [MayWait_zero]; iintro -; iempintro

/-- What device `c` owes, with whatever waits behind it. -/
def OW (c : Dev nD) (n : ℕ) : sProp 𝕄 := iprop(∃ W : Waits sig Unit, owes (c : Thread nD τ) (Ow c n) W)

/-! ## The state of one step's two cells -/

/-- Before the send: the tokens, the positions, the credit. -/
def stA (c : Dev nD) (p : Fin 3) (s : Fin 6) : sProp 𝕄 :=
  iprop(∃ κ₁ κ₂ κ₃ : ℕ, cellInv ER (Rd m) κ₁ (sendCell c p s) ∗ cellInv ER (Rd m) κ₂ (recvCell (pr c p s) p s) ∗ cellInv ER (Rd m) κ₃ (recvCell c p s)
    ∗ dutyTok ER (sendCell c p s) 0 0 ∗ reached ER (sendCell c p s) 0 ∗ dutyTok ER (recvCell (pr c p s) p s) 0 0 ∗ reached ER (recvCell (pr c p s) p s) 0
    ∗ atPos ER (sendCell c p s) 0 ∅ 0 ∗ atPos ER (recvCell c p s) 0 ∅ 0 ∗ cred (tallyAt (recvCell c p s) () (amt p s)))
/-- After the send. -/
def stB (c : Dev nD) (p : Fin 3) (s : Fin 6) : sProp 𝕄 :=
  iprop(∃ κ₁ κ₃ : ℕ, cellInv ER (Rd m) κ₁ (sendCell c p s) ∗ cellInv ER (Rd m) κ₃ (recvCell c p s) ∗ cred (tallyAt (sendCell c p s) () (amt p s))
    ∗ atPos ER (sendCell c p s) 0 ∅ 0 ∗ atPos ER (recvCell c p s) 0 ∅ 0 ∗ cred (tallyAt (recvCell c p s) () (amt p s)))
/-- After the wait on the send cell. -/
def stD (c : Dev nD) (p : Fin 3) (s : Fin 6) : sProp 𝕄 :=
  iprop(∃ κ₃ : ℕ, cellInv ER (Rd m) κ₃ (recvCell c p s) ∗ semVal (sendCell c p s) 0
    ∗ atPos ER (recvCell c p s) 0 ∅ 0 ∗ cred (tallyAt (recvCell c p s) () (amt p s)))
/-- After both waits. -/
def stZ (c : Dev nD) (p : Fin 3) (s : Fin 6) : sProp 𝕄 := iprop(semVal (sendCell c p s) 0 ∗ semVal (recvCell c p s) 0)

/-- What a signal to the partner across mask number `k` takes. -/
def stT (c : Dev nD) (k : Fin 3) : sProp 𝕄 :=
  iprop(∃ κ : ℕ, cellInv ER (Rd m) κ (barCell (pa c k)) ∗ dutyTok ER (barCell (pa c k)) 0 k ∗ reached ER (barCell (pa c k)) 0)
/-- What the barrier wait takes. -/
def stW (c : Dev nD) : sProp 𝕄 := iprop(∃ κ : ℕ, cellInv ER (Rd m) κ (barCell c) ∗ cred (tallyAt (barCell c) () 3) ∗ atPos ER (barCell c) 0 ∅ 0)

end Cert.KernelIdeal.Run

end
-- ==== Proof.KernelIdeal.Steps.lean ====
/- The steps of the exchange as the kernel's program takes them: one rule per transfer, wait and signal. -/
module

public import proofs.«01_k».proof.Proof.KernelIdeal.Proto

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Transfers -/

/-- A rectangle of rows of the working buffer covers those rows, and reads them in order. -/
theorem k_slice_set {a n : ℕ} {off : Fin 2 → ℕ} (hoff : off = ![a, 0]) (inb) (hu) :
    ((kM : Memref sig .tc .vmem S2048x1024 .bf16).slice (Rect.unit (s := S2048x1024) off (⟨2, ![n, 1024]⟩ : Shape).size inb) hu).view.set = rows 2048 1024 a n :=
  (View.set_slice_whole _ _).trans (unit_rows hoff inb)
theorem c_slice_set {a n : ℕ} {off : Fin 2 → ℕ} (hoff : off = ![a, 0]) (inb) (hu) :
    ((cM : Memref sig .tc .vmem S1792x1024 .bf16).slice (Rect.unit (s := S1792x1024) off (⟨2, ![n, 1024]⟩ : Shape).size inb) hu).view.set = rows 1792 1024 a n :=
  (View.set_slice_whole _ _).trans (unit_rows hoff inb)

theorem sz_pos (p : Fin 3) (s : Fin 6) : 0 < sz p s := by revert p s; decide
theorem so_le (c : Dev nD) (p : Fin 3) (s : Fin 6) : so c p s + sz p s ≤ 2048 := by revert c p s; decide
theorem cr_le (p s : Fin 3) : cr p s + sz p (hs s) ≤ 1792 := by revert p s; decide

/-- What a transfer of rows from `a` into the landing rows from `b` leaves there. -/
theorem land_c (c : Dev nD) {a b n : ℕ} (hn : 0 < n) {off off' : Fin 2 → ℕ} (hoff : off = ![a, 0]) (hoff' : off' = ![b, 0]) (inb) (hu) (inb') (hu')
    (f : Vec F S2048x1024 .bf16) (g : Vec F S1792x1024 .bf16) :
    C c b n (((cM : Memref sig .tc .vmem S1792x1024 .bf16).slice (Rect.unit (s := S1792x1024) off' (⟨2, ![n, 1024]⟩ : Shape).size inb') hu').view.write (Elt F) g
      (((kM : Memref sig .tc .vmem S2048x1024 .bf16).slice (Rect.unit (s := S2048x1024) off (⟨2, ![n, 1024]⟩ : Shape).size inb) hu).view.read (Elt F) f) Finset.univ)
    = C c b n (sh b a f) := by
  refine C_congr c b n fun j h1 h2 => ?_
  conv_lhs => rw [← emb_blkIdx hn hoff' inb' j h1 h2]
  refine (View.write_emb_of_mem (v := ((cM : Memref sig .tc .vmem S1792x1024 .bf16).slice (Rect.unit (s := S1792x1024) off' (⟨2, ![n, 1024]⟩ : Shape).size inb') hu').view) (Val := Elt F) g _ (Finset.mem_univ _)).trans ?_
  show f ((Rect.unit (s := S2048x1024) off (⟨2, ![n, 1024]⟩ : Shape).size inb).emb (blkIdx b n hn j)) = sh b a f j
  have hb : a + n ≤ 2048 := by subst hoff; exact inb 0
  rw [emb_rows hoff inb]
  unfold sh blkIdx
  congr 1
  congr 1
  apply Fin.ext
  show (a + ((j 0).val - b) % n) % 2048 = ((j 0).val + a - b) % 2048
  rw [Nat.mod_eq_of_lt (show (j 0).val - b < n by omega)]; congr 1; omega

/-- What a transfer of rows into the same rows of another device's working buffer leaves there. -/
theorem land_k (c : Dev nD) {a n : ℕ} (hn : 0 < n) {off off' : Fin 2 → ℕ} (hoff : off = ![a, 0]) (hoff' : off' = ![a, 0]) (inb) (hu) (inb') (hu')
    (f g : Vec F S2048x1024 .bf16) :
    W c a n (((kM : Memref sig .tc .vmem S2048x1024 .bf16).slice (Rect.unit (s := S2048x1024) off' (⟨2, ![n, 1024]⟩ : Shape).size inb') hu').view.write (Elt F) g
      (((kM : Memref sig .tc .vmem S2048x1024 .bf16).slice (Rect.unit (s := S2048x1024) off (⟨2, ![n, 1024]⟩ : Shape).size inb) hu).view.read (Elt F) f) Finset.univ)
    = W c a n f := by
  refine W_congr c a n fun j h1 h2 => ?_
  conv_lhs => rw [← emb_blkIdx hn hoff' inb' j h1 h2]
  refine (View.write_emb_of_mem (v := ((kM : Memref sig .tc .vmem S2048x1024 .bf16).slice (Rect.unit (s := S2048x1024) off' (⟨2, ![n, 1024]⟩ : Shape).size inb') hu').view) (Val := Elt F) g _ (Finset.mem_univ _)).trans ?_
  show f ((Rect.unit (s := S2048x1024) off (⟨2, ![n, 1024]⟩ : Shape).size inb).emb (blkIdx a n hn j)) = f j
  rw [emb_blkIdx hn hoff inb j h1 h2]

theorem recvPay_rs (c : Dev nD) (p s : Fin 3) : recvPay m c p (hs s) = rsPay m c p s := dif_pos s.isLt
theorem sendPay_rs (c : Dev nD) (p s : Fin 3) : sendPay m c p (hs s) = iprop(emp) := if_pos s.isLt

/-- A halving step's send: the rows given away land at the partner, and go with them. -/
theorem send_rs {α : Type} {Q : α → sProp 𝕄} (c : Dev nD) (p s : Fin 3) (N : ℕ) (hN : ps (17 - N) = (p, hs s)) {n : ℕ} (hn : n = sz p (hs s)) (nd : Dev nD) (hd : nd = pr c p (hs s))
    {off off' : Fin 2 → ℕ} (hoff : off = ![so c p (hs s), 0]) (hoff' : off' = ![cr p s, 0]) (q q' : DmaSem sig) (hq : q = sD p (hs s)) (hq' : q' = rD p (hs s))
    {inb hu inb' hu'} {hsc hsrc hdst hsem} {k : PUnit → Prog (TpuEff nD τ sig (Elt F) Λ₀ .tc) α} :
    iprop(stA m c p (hs s) ∗ W c (so c p (hs s)) (sz p (hs s)) (wv m s.val c) ∗ (∃ f, C (F := F) (pr c p (hs s)) (cr p s) (sz p (hs s)) f) ∗ OW c (N + 1))
      ⊢ iprop(((stB m c p (hs s) ∗ OW c N) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma ((kM : Memref sig .tc .vmem S2048x1024 .bf16).slice (Rect.unit (s := S2048x1024) off (⟨2, ![n, 1024]⟩ : Shape).size inb) hu)
              (.remote (Dev.tc nd : Thread nD τ) ((cM : Memref sig .tc .vmem S1792x1024 .bf16).slice (Rect.unit (s := S1792x1024) off' (⟨2, ![n, 1024]⟩ : Shape).size inb') hu') (.dma q) hsc) (.dma q') hsrc hdst hsem) k) Q) := by
  subst hn hd hq hq'
  unfold stA OW
  iintro ⟨⟨%κ₁, %κ₂, %κ₃, #HI1, #HI2, #HI3, Ht1, #Hr1, Ht2, #Hr2, Ha1, Ha3, Hc3⟩, Hw, ⟨%g, Hg⟩, ⟨%Wt, HO⟩⟩ Hk
  have hpay : iprop(C (F := F) (pr c p (hs s)) (cr p s) (sz p (hs s)) (((cM : Memref sig .tc .vmem S1792x1024 .bf16).slice (Rect.unit (s := S1792x1024) off' (⟨2, ![sz p (hs s), 1024]⟩ : Shape).size inb') hu').view.write (Elt F) g
      (((kM : Memref sig .tc .vmem S2048x1024 .bf16).slice (Rect.unit (s := S2048x1024) off (⟨2, ![sz p (hs s), 1024]⟩ : Shape).size inb) hu).view.read (Elt F) (wv m s.val c)) Finset.univ)
      ∗ W c (so c p (hs s)) (sz p (hs s)) (wv m s.val c)) ⊢ (Rd m).payload (recvCell (pr c p (hs s)) p (hs s)) 0 0 := by
    rw [payload_recv, recvPay_rs, land_c _ (sz_pos _ _) hoff hoff']
    unfold rsPay
    rw [ko_pr, pr_pr]
  have hset1 := k_slice_set (n := sz p (hs s)) hoff inb hu
  have hset2 := c_slice_set (n := sz p (hs s)) hoff' inb' hu'
  have key := Rounds.wp_send_landing_pointsTo (Q := Q) (defs := defs₀ (F := F)) (Γ := .empty) 𝒱₀ ER (Rd m) (c : Thread nD τ) none (κ₁ := κ₁) (κ₂ := κ₂) (c' := (pr c p (hs s) : Thread nD τ))
    (src := (kM : Memref sig .tc .vmem S2048x1024 .bf16).slice (Rect.unit (s := S2048x1024) off (⟨2, ![sz p (hs s), 1024]⟩ : Shape).size inb) hu)
    (dst := (cM : Memref sig .tc .vmem S1792x1024 .bf16).slice (Rect.unit (s := S1792x1024) off' (⟨2, ![sz p (hs s), 1024]⟩ : Shape).size inb') hu')
    (hsc := hsc) (hsrc := hsrc) (hdst := hdst) (hsem := hsem) (k := k) (q := fullShare) (fs := wv m s.val c) (fd := g) (Es := Set.univ)
    (r₁ := 0) (r₂ := 0) (d₁ := 0) (d₂ := 0)
    (by rw [duties_send]; exact Finset.mem_singleton_self _) (by rw [duties_recv]; exact Finset.mem_singleton_self _)
    () () (amt p (hs s)) rfl (amount_send m c p (hs s) 0) (amount_recv m (pr c p (hs s)) p (hs s) 0) (Ow c N) (O₀ := Ow c (N + 1)) (by rw [Ow, tgt, hN]) (W := Wt)
    (by rw [payload_send, sendPay_rs]) (by rw [hset1, hset2]; exact hpay)
  rw [hset1, hset2] at key
  have e1 : (((kM : Memref sig .tc .vmem S2048x1024 .bf16).slice (Rect.unit (s := S2048x1024) off (⟨2, ![sz p (hs s), 1024]⟩ : Shape).size inb) hu).view.loc (c : Thread nD τ)
      ↦[rows 2048 1024 (so c p (hs s)) (sz p (hs s))]{fullShare} (wv m s.val c) : sProp 𝕄) = W c (so c p (hs s)) (sz p (hs s)) (wv m s.val c) := rfl
  have e2 : (((cM : Memref sig .tc .vmem S1792x1024 .bf16).slice (Rect.unit (s := S1792x1024) off' (⟨2, ![sz p (hs s), 1024]⟩ : Shape).size inb') hu').view.loc (pr c p (hs s) : Thread nD τ)
      ↦[rows 1792 1024 (cr p s) (sz p (hs s))]{fullShare} g : sProp 𝕄) = C (pr c p (hs s)) (cr p s) (sz p (hs s)) g := rfl
  rw [e1, e2] at key
  iapply key $$ [Hw Hg HO Ht1 Ht2]
  · isplitr; · iexact HI1
    isplitr; · iexact HI2
    isplitl [Hw]; · iexact Hw
    isplitl [Hg]; · iexact Hg
    isplitl [HO]; · iexact HO
    isplitl [Ht1]; · iexact Ht1
    isplitr; · iexact Hr1
    isplitl [Ht2]; · iexact Ht2
    iexact Hr2
  iintro ⟨Hc, HO⟩
  iapply Hk
  isplitr [HO]
  · unfold stB
    iexists κ₁; iexists κ₃
    isplitr; · iexact HI1
    isplitr; · iexact HI3
    isplitl [Hc]; · iexact Hc
    isplitl [Ha1]; · iexact Ha1
    isplitl [Ha3]; · iexact Ha3
    iexact Hc3
  · iexists Wt; iexact HO

theorem recvPay_ag (c : Dev nD) (p t : Fin 3) (s : Fin 6) (h : s.val = 3 + t.val) : recvPay m c p s = W c (so c p ⟨2 - t.val, by omega⟩) (sz p s) (fin m) := by
  unfold recvPay; rw [dif_neg (by omega)]
  have : (⟨5 - s.val, by omega⟩ : Fin 6) = ⟨2 - t.val, by omega⟩ := Fin.ext (by show 5 - s.val = 2 - t.val; omega)
  rw [this]
theorem sendPay_ag (c : Dev nD) (p : Fin 3) (s : Fin 6) (h : 3 ≤ s.val) : sendPay m c p s = W c (so c p s) (sz p s) (fin m) := if_neg (by omega)

/-- At a doubling step the rows sent are the ones the partner gave away at the matching halving step. -/
theorem so_pr_ag (c : Dev nD) (p : Fin 3) (s : Fin 6) (h : 3 ≤ s.val) : so (pr c p s) p ⟨5 - s.val, by omega⟩ = so c p s := by revert c p s; decide

/-- A doubling step's send: the finished rows, to the same rows of the partner. -/
theorem send_ag {α : Type} {Q : α → sProp 𝕄} (c : Dev nD) (p : Fin 3) (s : Fin 6) (hs3 : 3 ≤ s.val) (N : ℕ) (hN : ps (17 - N) = (p, s)) {n : ℕ} (hn : n = sz p s) (nd : Dev nD) (hd : nd = pr c p s)
    {off off' : Fin 2 → ℕ} (hoff : off = ![so c p s, 0]) (hoff' : off' = ![so c p s, 0]) (q q' : DmaSem sig) (hq : q = sD p s) (hq' : q' = rD p s)
    {inb hu inb' hu'} {hsc hsrc hdst hsem} {k : PUnit → Prog (TpuEff nD τ sig (Elt F) Λ₀ .tc) α} :
    iprop(stA m c p s ∗ W c (so c p s) (sz p s) (fin m) ∗ (∃ f, W (F := F) (pr c p s) (so c p s) (sz p s) f) ∗ OW c (N + 1))
      ⊢ iprop(((stB m c p s ∗ OW c N) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma ((kM : Memref sig .tc .vmem S2048x1024 .bf16).slice (Rect.unit (s := S2048x1024) off (⟨2, ![n, 1024]⟩ : Shape).size inb) hu)
              (.remote (Dev.tc nd : Thread nD τ) ((kM : Memref sig .tc .vmem S2048x1024 .bf16).slice (Rect.unit (s := S2048x1024) off' (⟨2, ![n, 1024]⟩ : Shape).size inb') hu') (.dma q) hsc) (.dma q') hsrc hdst hsem) k) Q) := by
  subst hn hd hq hq'
  unfold stA OW
  iintro ⟨⟨%κ₁, %κ₂, %κ₃, #HI1, #HI2, #HI3, Ht1, #Hr1, Ht2, #Hr2, Ha1, Ha3, Hc3⟩, Hw, ⟨%g, Hg⟩, ⟨%Wt, HO⟩⟩ Hk
  have hpay : W (F := F) (pr c p s) (so c p s) (sz p s) (((kM : Memref sig .tc .vmem S2048x1024 .bf16).slice (Rect.unit (s := S2048x1024) off' (⟨2, ![sz p s, 1024]⟩ : Shape).size inb') hu').view.write (Elt F) g
      (((kM : Memref sig .tc .vmem S2048x1024 .bf16).slice (Rect.unit (s := S2048x1024) off (⟨2, ![sz p s, 1024]⟩ : Shape).size inb) hu).view.read (Elt F) (fin m)) Finset.univ)
      ⊢ (Rd m).payload (recvCell (pr c p s) p s) 0 0 := by
    rw [payload_recv, land_k _ (sz_pos _ _) hoff hoff']
    unfold recvPay
    rw [dif_neg (by omega), so_pr_ag c p s hs3]
  have hset1 := k_slice_set (n := sz p s) hoff inb hu
  have hset2 := k_slice_set (n := sz p s) hoff' inb' hu'
  have key := Rounds.wp_send_pointsTo (Q := Q) (defs := defs₀ (F := F)) (Γ := .empty) 𝒱₀ ER (Rd m) (c : Thread nD τ) none (κ₁ := κ₁) (κ₂ := κ₂) (c' := (pr c p s : Thread nD τ))
    (src := (kM : Memref sig .tc .vmem S2048x1024 .bf16).slice (Rect.unit (s := S2048x1024) off (⟨2, ![sz p s, 1024]⟩ : Shape).size inb) hu)
    (dst := (kM : Memref sig .tc .vmem S2048x1024 .bf16).slice (Rect.unit (s := S2048x1024) off' (⟨2, ![sz p s, 1024]⟩ : Shape).size inb') hu')
    (hsc := hsc) (hsrc := hsrc) (hdst := hdst) (hsem := hsem) (k := k) (q := fullShare) (fs := fin m) (fd := g) (Es := Set.univ)
    (r₁ := 0) (r₂ := 0) (d₁ := 0) (d₂ := 0)
    (by rw [duties_send]; exact Finset.mem_singleton_self _) (by rw [duties_recv]; exact Finset.mem_singleton_self _)
    () () (amt p s) rfl (amount_send m c p s 0) (amount_recv m (pr c p s) p s 0) (Ow c N) (O₀ := Ow c (N + 1)) (by rw [Ow, tgt, hN]) (W := Wt)
    (by rw [payload_send, sendPay_ag m c p s hs3, hset1]; exact BI.Entails.refl _) (by rw [hset2]; exact hpay)
  rw [hset1, hset2] at key
  have e1 : (((kM : Memref sig .tc .vmem S2048x1024 .bf16).slice (Rect.unit (s := S2048x1024) off (⟨2, ![sz p s, 1024]⟩ : Shape).size inb) hu).view.loc (c : Thread nD τ)
      ↦[rows 2048 1024 (so c p s) (sz p s)]{fullShare} (fin m) : sProp 𝕄) = W c (so c p s) (sz p s) (fin m) := rfl
  have e2 : (((kM : Memref sig .tc .vmem S2048x1024 .bf16).slice (Rect.unit (s := S2048x1024) off' (⟨2, ![sz p s, 1024]⟩ : Shape).size inb') hu').view.loc (pr c p s : Thread nD τ)
      ↦[rows 2048 1024 (so c p s) (sz p s)]{fullShare} g : sProp 𝕄) = W (pr c p s) (so c p s) (sz p s) g := rfl
  rw [e1, e2] at key
  iapply key $$ [Hw Hg HO Ht1 Ht2]
  · isplitr; · iexact HI1
    isplitr; · iexact HI2
    isplitl [Hw]; · iexact Hw
    isplitl [Hg]; · iexact Hg
    isplitl [HO]; · iexact HO
    isplitl [Ht1]; · iexact Ht1
    isplitr; · iexact Hr1
    isplitl [Ht2]; · iexact Ht2
    iexact Hr2
  iintro ⟨Hc, HO⟩
  iapply Hk
  isplitr [HO]
  · unfold stB
    iexists κ₁; iexists κ₃
    isplitr; · iexact HI1
    isplitr; · iexact HI3
    isplitl [Hc]; · iexact Hc
    isplitl [Ha1]; · iexact Ha1
    isplitl [Ha3]; · iexact Ha3
    iexact Hc3
  · iexists Wt; iexact HO

/-! ## Waits and signals -/

/-- A wait on a send cell: its payload, and the cell's counter back at zero. -/
theorem wait_send {α : Type} {Q : α → sProp 𝕄} (c : Dev nD) (p : Fin 3) (s : Fin 6) (N : ℕ) (hN : N ≤ 18) (q : DmaSem sig) (hq : q = sD p s)
    {sp₁ sp₂ : Space} {s₁ : Shape} {e₁ : EltTy} {src : Memref sig .tc sp₁ s₁ e₁} {dst : Memref sig .tc sp₂ s₁ e₁} (hamt : dst.view.dmaCredit = amt p s) {h₁ h₂}
    {k : PUnit → Prog (TpuEff nD τ sig (Elt F) Λ₀ .tc) α} :
    iprop(levAts L lv ∗ stB m c p s ∗ OW c N)
      ⊢ iprop(((stD m c p s ∗ sendPay m c p s ∗ OW c N) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h₁ h₂) k) Q) := by
  subst hq
  unfold stB OW
  iintro ⟨#Hlev, ⟨%κ₁, %κ₃, #HI1, #HI3, Hc, Ha1, Ha3, Hc3⟩, ⟨%Wt, HO⟩⟩ Hk
  iapply (Rounds.wp_wait_rest_token 𝒱₀ ER (Rd m) (c : Thread nD τ) none (κ := κ₁)
      (wpE_waitDma2_eq 𝒱₀ (c : Thread nD τ) none Set.univ) (Set.mem_univ _) () (O := Ow c N) (W := Wt) (R := 0) (m := 0) (T := ∅)
      (by rw [Nat.zero_add, expect_send]; exact hamt)) $$ [Hc HO Ha1]
  · isplitr; · iexact HI1
    isplitl [Hc]; · rw [hamt]; iexact Hc
    isplitl [HO]; · iexact HO
    isplitr; · iapply (mayWait_of c _ N hN (by rw [lvOf_send]; omega)); iexact Hlev
    iexact Ha1
  iintro ⟨HO, Ha1, -, Hpay⟩
  ihave Hp := (Entails.of_eq (rest_send m c p s)) $$ Hpay
  imod (Rounds.cell_close ER (Rd m) (Set.mem_univ κ₁) (fun h => h) (R := 0 + 1) (duties_later m (sendCell c p s))) $$ [Ha1] with HzS
  · isplitr; · iexact HI1
    iexact Ha1
  iapply Hk
  isplitr [Hp HO]
  · unfold stD
    iexists κ₃
    isplitr; · iexact HI3
    isplitl [HzS]; · iexact HzS
    isplitl [Ha3]; · iexact Ha3
    iexact Hc3
  isplitl [Hp]; · iexact Hp
  iexists _; iexact HO

/-- A wait on a receive cell: its payload, and both cells' counters at zero. -/
theorem wait_recv {α : Type} {Q : α → sProp 𝕄} (c : Dev nD) (p : Fin 3) (s : Fin 6) (N : ℕ) (hN : N ≤ 18) (hl : 2 + s.val < 2 + (18 - N) / 3) (q : DmaSem sig) (hq : q = rD p s)
    {sp₁ sp₂ : Space} {s₁ : Shape} {e₁ : EltTy} {src : Memref sig .tc sp₁ s₁ e₁} {dst : Memref sig .tc sp₂ s₁ e₁} (hamt : dst.view.dmaCredit = amt p s) {h₁ h₂}
    {k : PUnit → Prog (TpuEff nD τ sig (Elt F) Λ₀ .tc) α} :
    iprop(levAts L lv ∗ stD m c p s ∗ OW c N)
      ⊢ iprop(((stZ (F := F) c p s ∗ recvPay m c p s ∗ OW c N) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h₁ h₂) k) Q) := by
  subst hq
  unfold stD OW
  iintro ⟨#Hlev, ⟨%κ₃, #HI3, HzS, Ha3, Hc3⟩, ⟨%Wt, HO⟩⟩ Hk
  iapply (Rounds.wp_wait_rest_token 𝒱₀ ER (Rd m) (c : Thread nD τ) none (κ := κ₃)
      (wpE_waitDma2_eq 𝒱₀ (c : Thread nD τ) none Set.univ) (Set.mem_univ _) () (O := Ow c N) (W := Wt) (R := 0) (m := 0) (T := ∅)
      (by rw [Nat.zero_add, expect_recv]; exact hamt)) $$ [Hc3 HO Ha3]
  · isplitr; · iexact HI3
    isplitl [Hc3]; · rw [hamt]; iexact Hc3
    isplitl [HO]; · iexact HO
    isplitr; · iapply (mayWait_of c _ N hN (by rw [lvOf_recv]; exact hl)); iexact Hlev
    iexact Ha3
  iintro ⟨HO, Ha3, -, Hpay⟩
  ihave Hp := (Entails.of_eq (rest_recv m c p s)) $$ Hpay
  imod (Rounds.cell_close ER (Rd m) (Set.mem_univ κ₃) (fun h => h) (R := 0 + 1) (duties_later m (recvCell c p s))) $$ [Ha3] with HzR
  · isplitr; · iexact HI3
    iexact Ha3
  iapply Hk
  isplitl [HzS HzR]
  · unfold stZ
    isplitl [HzS]; · iexact HzS
    iexact HzR
  isplitl [Hp]; · iexact Hp
  iexists _; iexact HO

/-- A signal to the partner across mask number `k`: the landing rows lent to it. -/
theorem signal {α : Type} {Q : α → sProp 𝕄} (c : Dev nD) (k : Fin 3) (nd : Dev nD) (hd : nd = pa c k) (O : CellTallies nD τ sig Unit) {O' : CellTallies nD τ sig Unit}
    (hO : O' = O + tallyAt (barCell (pa c k)) () 1) {n : ℕ} (hn : n = 1) {Wt : Waits sig Unit} {kk : PUnit → Prog (TpuEff nD τ sig (Elt F) Λ₀ .tc) α} :
    iprop(stT m c k ∗ lend (F := F) c k ∗ owes (c : Thread nD τ) O' Wt)
      ⊢ iprop((owes (c : Thread nD τ) O Wt -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (nd : Thread nD τ) barS n) kk) Q) := by
  subst hd hn
  unfold stT
  iintro ⟨⟨%κ, #HI, Ht, #Hr⟩, Hl, HO⟩ Hk
  iapply (Rounds.wp_signal 𝒱₀ ER (Rd m) (c : Thread nD τ) none (dst := (pa c k : Thread nD τ)) (κ := κ)
      (d := k) (by rw [duties_bar]; exact Finset.mem_univ _) ((amount_bar m (pa c k) k).trans (by decide)) () O hO)
    $$ [HO Ht Hl]
  · isplitr; · iexact HI
    isplitl [HO]; · iexact HO
    isplitl [Ht]; · iexact Ht
    isplitl [Hl]; · rw [payload_bar, pa_pa]; iexact Hl
    iexact Hr
  iexact Hk

/-- The barrier wait: the partners' landing rows, and the barrier cell's counter back at zero. -/
theorem bar_wait {α : Type} {Q : α → sProp 𝕄} (c : Dev nD) {n : ℕ} (hn : n = 3) {Wt : Waits sig Unit} {kk : PUnit → Prog (TpuEff nD τ sig (Elt F) Λ₀ .tc) α} :
    iprop(levAts L lv ∗ stW m c ∗ owes (c : Thread nD τ) (Ow c 18) Wt)
      ⊢ iprop(((OW (F := F) c 18 ∗ semVal (barCell c) 0 ∗ lend (F := F) (pa c 0) 0 ∗ lend (F := F) (pa c 1) 1 ∗ lend (F := F) (pa c 2) 2) -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS n) kk) Q) := by
  subst hn
  unfold stW
  iintro ⟨#Hlev, ⟨%κ, #HI, Hc, Ha⟩, HO⟩ Hk
  iapply (Rounds.wp_wait_rest_token 𝒱₀ ER (Rd m) (c : Thread nD τ) none (κ := κ)
      (wpE_semWait_eq 𝒱₀ (c : Thread nD τ) none Set.univ) (Set.mem_univ _) () (O := Ow c 18) (W := Wt) (R := 0) (m := 0) (T := ∅)
      (by rw [expect_bar])) $$ [Hc HO Ha]
  · isplitr; · iexact HI
    isplitl [Hc]; · iexact Hc
    isplitl [HO]; · iexact HO
    isplitr; · iapply (mayWait_of c (.reg barS) 18 le_rfl (by rw [lvOf_bar]; decide)); iexact Hlev
    iexact Ha
  iintro ⟨HO, Ha, -, Hpay⟩
  ihave Hp := (Entails.of_eq (rest_bar m c)) $$ Hpay
  imod (Rounds.cell_close ER (Rd m) (Set.mem_univ κ) (fun h => h) (R := 0 + 1) (duties_later m (barCell c))) $$ [Ha] with HzB
  · isplitr; · iexact HI
    iexact Ha
  iapply Hk
  isplitl [HO]; · unfold OW; iexists _; iexact HO
  isplitl [HzB]; · iexact HzB
  iexact Hp

end Cert.KernelIdeal.Run

end
-- ==== Proof.KernelIdeal.Vals.lean ====
/- What the kernel's stores leave in the working buffer, and how the working and the landing buffer are cut. -/
module

public import proofs.«01_k».proof.Proof.KernelIdeal.Steps

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the stores leave -/

theorem addv_congr {s s' : Shape} (u v : FVec F s .bf16) (u' v' : FVec F s' .bf16) (x : s.Idx) (x' : s'.Idx) (h1 : u x = u' x') (h2 : v x = v' x') :
    addv u v x = addv u' v' x' := by
  show truncf .bf16 (addf (extf .f32 u bitsLt_bf16_f32) (extf .f32 v bitsLt_bf16_f32)) bitsLt_bf16_f32 x = truncf .bf16 (addf (extf .f32 u' bitsLt_bf16_f32) (extf .f32 v' bitsLt_bf16_f32)) bitsLt_bf16_f32 x'
  unfold truncf addf extf
  rw [h1, h2]

/-- An added block: rows `a`, … of device `c`'s partly reduced result, plus the partner's landed rows. -/
theorem add_hg (c : Dev nD) (p s : Fin 3) (a n b k a0 : ℕ) (hn : 0 < n) (d : Dev nD) (hd : d = pa c (p + s))
    (h1 : R0 p ≤ a) (h2 : a + n ≤ R0 p + 2 * Hs p) (h3 : a0 ≤ a) (hb : b = k + (a - a0)) (hb' : b + n ≤ 1792)
    (v : FVec F ⟨2, ![n, 1024]⟩ .bf16) (hv : v = addv (rowsOf a n (wv m s.val c)) (rowsOf b n (sh k a0 (wv m s.val d)))) (j : S2048x1024.Idx)
    (hj1 : a ≤ (j 0).val) (hj2 : (j 0).val < a + n) : wv m (s.val + 1) c j = place a n hn v j := by
  have hj : (j 0).val < 2048 := (j 0).isLt
  have hq : qp (j 0).val = p := qp_of (by omega) (by omega)
  have hr : ((j 0).val - a) % n = (j 0).val - a := Nat.mod_eq_of_lt (by omega)
  unfold place; rw [hv]
  refine addv_congr _ _ _ _ _ _ ?_ ?_
  · show wv m s.val c j = wv m s.val c _
    congr 1
    conv_lhs => rw [← Shape.pair_eta j]
    congr 1; apply Fin.ext
    show (j 0).val = (a + ((j 0).val - a) % n) % 2048
    rw [hr, Nat.mod_eq_of_lt (by omega)]; omega
  · have hs : (⟨s.val % 3, Nat.mod_lt _ (by decide)⟩ : Fin 3) = s := Fin.ext (Nat.mod_eq_of_lt s.isLt)
    show wv m s.val (pa c (qp (j 0).val + ⟨s.val % 3, _⟩)) j = wv m s.val d _
    rw [hq, hs, ← hd]
    congr 1
    conv_lhs => rw [← Shape.pair_eta j]
    congr 1; apply Fin.ext
    show (j 0).val = ((b + ((j 0).val - a) % n) % 1792 + a0 - k) % 2048
    rw [hr, Nat.mod_eq_of_lt (a := b + _) (by omega), Nat.mod_eq_of_lt (by omega)]; omega

theorem fin_eq (c : Dev nD) (p : Fin 3) (j : S2048x1024.Idx) (h1 : o2 c p ≤ (j 0).val) (h2 : (j 0).val < o2 c p + Es p) : fin m j = wv m 3 c j := by
  unfold fin; rw [own_eq h1 h2]

theorem g_E (c : Dev nD) (p : Fin 3) : R0 p ≤ oE c p ∧ oE c p + Es p ≤ R0 p + 2 * Hs p ∧ o1 c p ≤ oE c p ∧ cr p 1 + (oE c p - o1 c p) + Es p ≤ cr p 1 + Qs p := by revert c p; decide
theorem g_2 (c : Dev nD) (p : Fin 3) : o1 c p ≤ o2 c p ∧ cr p 1 + (o2 c p - o1 c p) + Es p ≤ cr p 1 + Qs p := by revert c p; decide
theorem g_Q (c : Dev nD) (p : Fin 3) : o0 c p ≤ oQ c p ∧ cr p 0 + (oQ c p - o0 c p) + Qs p ≤ cr p 0 + Hs p := by revert c p; decide
theorem g_1 (c : Dev nD) (p : Fin 3) : o0 c p ≤ o1 c p ∧ cr p 0 + (o1 c p - o0 c p) + Qs p ≤ cr p 0 + Hs p := by revert c p; decide
theorem mk_hs (p s : Fin 3) : mk p (hs s) = p + s := by revert p s; decide
theorem crh (p : Fin 3) : cr p 0 + Hs p ≤ 1792 ∧ cr p 1 + Qs p ≤ 1792 ∧ cr p 2 + Es p ≤ 1792 := by revert p; decide

/-- The sums taken at the first halving step, in the rows sent next. -/
theorem hgQ' (c : Dev nD) (p : Fin 3) (hn : 0 < Qs p) (v : FVec F ⟨2, ![Qs p, 1024]⟩ .bf16)
    (hv : v = addv (rowsOf (oQ c p) (Qs p) (P m c)) (rowsOf (cr p 0 + (oQ c p - o0 c p)) (Qs p) (sh (cr p 0) (o0 c p) (P m (pr c p (hs 0)))))) (j : S2048x1024.Idx)
    (hj1 : oQ c p ≤ (j 0).val) (hj2 : (j 0).val < oQ c p + Qs p) : wv m 1 c j = place (oQ c p) (Qs p) hn v j :=
  add_hg m c p 0 _ _ _ _ _ hn _ (congrArg (pa c) (mk_hs p 0)) (ro_in c p 1).1 (ro_in c p 1).2 (g_Q c p).1 rfl ((g_Q c p).2.trans (crh p).1) v hv j hj1 hj2

/-- The sums taken at the first halving step, in the rows kept. -/
theorem hgQ (c : Dev nD) (p : Fin 3) (hn : 0 < Qs p) (v : FVec F ⟨2, ![Qs p, 1024]⟩ .bf16)
    (hv : v = addv (rowsOf (o1 c p) (Qs p) (P m c)) (rowsOf (cr p 0 + (o1 c p - o0 c p)) (Qs p) (sh (cr p 0) (o0 c p) (P m (pr c p (hs 0)))))) (j : S2048x1024.Idx)
    (hj1 : o1 c p ≤ (j 0).val) (hj2 : (j 0).val < o1 c p + Qs p) : wv m 1 c j = place (o1 c p) (Qs p) hn v j :=
  add_hg m c p 0 _ _ _ _ _ hn _ (congrArg (pa c) (mk_hs p 0)) (ro_in c p 2).1 (ro_in c p 2).2 (g_1 c p).1 rfl ((g_1 c p).2.trans (crh p).1) v hv j hj1 hj2

/-- The sums taken at the second halving step, in the rows sent next. -/
theorem hgE' (c : Dev nD) (p : Fin 3) (hn : 0 < Es p) (v : FVec F ⟨2, ![Es p, 1024]⟩ .bf16)
    (hv : v = addv (rowsOf (oE c p) (Es p) (wv m 1 c)) (rowsOf (cr p 1 + (oE c p - o1 c p)) (Es p) (sh (cr p 1) (o1 c p) (wv m 1 (pr c p (hs 1)))))) (j : S2048x1024.Idx)
    (hj1 : oE c p ≤ (j 0).val) (hj2 : (j 0).val < oE c p + Es p) : wv m 2 c j = place (oE c p) (Es p) hn v j :=
  add_hg m c p 1 _ _ _ _ _ hn _ (congrArg (pa c) (mk_hs p 1)) (g_E c p).1 (g_E c p).2.1 (g_E c p).2.2.1 rfl ((g_E c p).2.2.2.trans (crh p).2.1) v hv j hj1 hj2

/-- The sums taken at the second halving step, in the rows kept. -/
theorem hgE (c : Dev nD) (p : Fin 3) (hn : 0 < Es p) (v : FVec F ⟨2, ![Es p, 1024]⟩ .bf16)
    (hv : v = addv (rowsOf (o2 c p) (Es p) (wv m 1 c)) (rowsOf (cr p 1 + (o2 c p - o1 c p)) (Es p) (sh (cr p 1) (o1 c p) (wv m 1 (pr c p (hs 1)))))) (j : S2048x1024.Idx)
    (hj1 : o2 c p ≤ (j 0).val) (hj2 : (j 0).val < o2 c p + Es p) : wv m 2 c j = place (o2 c p) (Es p) hn v j :=
  add_hg m c p 1 _ _ _ _ _ hn _ (congrArg (pa c) (mk_hs p 1)) (o2_in c p).1 (o2_in c p).2 (g_2 c p).1 rfl ((g_2 c p).2.trans (crh p).2.1) v hv j hj1 hj2

/-- The sums taken at the last halving step: the result's rows. -/
theorem hgF (c : Dev nD) (p : Fin 3) (hn : 0 < Es p) (v : FVec F ⟨2, ![Es p, 1024]⟩ .bf16)
    (hv : v = addv (rowsOf (o2 c p) (Es p) (wv m 2 c)) (rowsOf (cr p 2) (Es p) (sh (cr p 2) (o2 c p) (wv m 2 (pr c p (hs 2)))))) (j : S2048x1024.Idx)
    (hj1 : o2 c p ≤ (j 0).val) (hj2 : (j 0).val < o2 c p + Es p) : fin m j = place (o2 c p) (Es p) hn v j :=
  (fin_eq m c p j hj1 hj2).trans
    (add_hg m c p 2 _ _ _ _ _ hn _ (congrArg (pa c) (mk_hs p 2)) (o2_in c p).1 (o2_in c p).2 le_rfl (by omega) (crh p).2.2 v hv j hj1 hj2)

/-! ## The landing regions, per part and step -/

/-- Where device `c` sends at halving step `s` of part `p`. -/
def lendIn (c : Dev nD) (p s : Fin 3) : sProp 𝕄 := iprop(∃ f, C (F := F) (pr c p (hs s)) (cr p s) (sz p (hs s)) f)

theorem pr_stp (c : Dev nD) (p k : Fin 3) : pr c p (hs (stp p k)) = pa c k := by revert c p k; decide

theorem lend_in (c : Dev nD) (k : Fin 3) : lend (F := F) (pa c k) k = iprop(lendIn c 0 (stp 0 k) ∗ lendIn c 1 (stp 1 k) ∗ lendIn c 2 (stp 2 k)) := by
  unfold lend lendIn; rw [pr_stp, pr_stp, pr_stp]

theorem lend_ins (c : Dev nD) : iprop(lend (F := F) (pa c 0) 0 ∗ lend (pa c 1) 1 ∗ lend (pa c 2) 2) ⊢
    (iprop((lendIn c 0 0 ∗ lendIn c 0 1 ∗ lendIn c 0 2) ∗ (lendIn c 1 0 ∗ lendIn c 1 1 ∗ lendIn c 1 2) ∗ (lendIn c 2 0 ∗ lendIn c 2 1 ∗ lendIn c 2 2)) : sProp 𝕄) := by
  rw [lend_in, lend_in, lend_in]
  have e00 : stp 0 0 = 0 := by decide
  have e10 : stp 1 0 = 2 := by decide
  have e20 : stp 2 0 = 1 := by decide
  have e01 : stp 0 1 = 1 := by decide
  have e11 : stp 1 1 = 0 := by decide
  have e21 : stp 2 1 = 2 := by decide
  have e02 : stp 0 2 = 2 := by decide
  have e12 : stp 1 2 = 1 := by decide
  have e22 : stp 2 2 = 0 := by decide
  rw [e00, e10, e20, e01, e11, e21, e02, e12, e22]
  iintro ⟨⟨A0, A1, A2⟩, ⟨B0, B1, B2⟩, C0, C1, C2⟩
  isplitl [A0 B0 C0]
  · isplitl [A0]; · iexact A0
    isplitl [B0]; · iexact B0
    iexact C0
  isplitl [A1 B1 C1]
  · isplitl [B1]; · iexact B1
    isplitl [C1]; · iexact C1
    iexact A1
  isplitl [C2]; · iexact C2
  isplitl [A2]; · iexact A2
  iexact B2

theorem C_split (c : Dev nD) (a n b k N : ℕ) (hb : b = a + n) (hN : N = n + k) (f : Vec F S1792x1024 .bf16) :
    C (F := F) c a N f = iprop(C c a n f ∗ C c b k f) := by subst hb hN; exact C_add c a n k f

theorem C_merge (c : Dev nD) (a n b k N : ℕ) (hb : b = a + n) (hN : N = n + k) :
    iprop((∃ f, C (F := F) c a n f) ∗ (∃ f, C c b k f)) ⊢ (iprop(∃ f, C (F := F) c a N f) : sProp 𝕄) := by subst hN; exact C_join c a n b k hb

theorem comm_eq (c : Dev nD) (f : Vec F S1792x1024 .bf16) : (((c : Thread nD τ).loc cc0_scratch2) ↦{fullShare} f : sProp 𝕄) = C c 0 1792 f := by
  unfold C
  rw [show rows 1792 1024 0 1792 = Finset.univ from Finset.eq_univ_iff_forall.mpr fun j => mem_rows.mpr ⟨Nat.zero_le _, by have : (j 0).val < 1792 := (j 0).isLt; omega⟩]

/-- The landing rows of part `p` start here and are this many. -/
theorem part_C (c : Dev nD) (p : Fin 3) (f : Vec F S1792x1024 .bf16) : C (F := F) c (cr p 0) (sz p 0 + (sz p 1 + sz p 2)) f =
    iprop(C c (cr p 0) (sz p (hs 0)) f ∗ C c (cr p 1) (sz p (hs 1)) f ∗ C c (cr p 2) (sz p (hs 2)) f) := by
  show _ = iprop(C c (cr p 0) (sz p 0) f ∗ C c (cr p 1) (sz p 1) f ∗ C c (cr p 2) (sz p 2) f)
  rw [C_split c (cr p 0) (sz p 0) (cr p 1) (sz p 1 + sz p 2) _ (by revert p; decide) rfl,
    C_split c (cr p 1) (sz p 1) (cr p 2) (sz p 2) _ (by revert p; decide) rfl]

theorem comm_parts (c : Dev nD) (f : Vec F S1792x1024 .bf16) : C (F := F) c 0 1792 f =
    iprop(C c (cr 0 0) (sz 0 0 + (sz 0 1 + sz 0 2)) f ∗ C c (cr 1 0) (sz 1 0 + (sz 1 1 + sz 1 2)) f ∗ C c (cr 2 0) (sz 2 0 + (sz 2 1 + sz 2 2)) f) := by
  rw [C_split c 0 616 616 1176 1792 (by decide) (by decide), C_split c 616 616 1232 560 1176 (by decide) (by decide)]
  rfl

theorem lend_out (c : Dev nD) (f : Vec F S1792x1024 .bf16) :
    (((c : Thread nD τ).loc cc0_scratch2) ↦{fullShare} f : sProp 𝕄) ⊢ iprop(lend c 0 ∗ lend c 1 ∗ lend c 2) := by
  rw [comm_eq, comm_parts, part_C, part_C, part_C]
  iintro ⟨⟨H00, H01, H02⟩, ⟨H10, H11, H12⟩, H20, H21, H22⟩
  have e : ∀ p s k : Fin 3, stp p k = s → C (F := F) c (cr p s) (sz p (hs s)) f ⊢ (iprop(∃ f, C (F := F) c (cr p (stp p k)) (sz p (hs (stp p k))) f) : sProp 𝕄) := by
    rintro p s k rfl; iintro H; iexists f; iexact H
  unfold lend
  isplitl [H00 H12 H21]
  · isplitl [H00]; · iapply (e 0 0 0 (by decide)) $$ H00
    isplitl [H12]; · iapply (e 1 2 0 (by decide)) $$ H12
    iapply (e 2 1 0 (by decide)) $$ H21
  isplitl [H01 H10 H22]
  · isplitl [H01]; · iapply (e 0 1 1 (by decide)) $$ H01
    isplitl [H10]; · iapply (e 1 0 1 (by decide)) $$ H10
    iapply (e 2 2 1 (by decide)) $$ H22
  isplitl [H02]; · iapply (e 0 2 2 (by decide)) $$ H02
  isplitl [H11]; · iapply (e 1 1 2 (by decide)) $$ H11
  iapply (e 2 0 2 (by decide)) $$ H20

/-- A landing region holding something. -/
abbrev CX (c : Dev nD) (p s : Fin 3) : sProp 𝕄 := iprop(∃ f, C (F := F) c (cr p s) (sz p (hs s)) f)

theorem part_back (c : Dev nD) (p : Fin 3) : iprop(CX (F := F) c p 0 ∗ CX c p 1 ∗ CX c p 2) ⊢
    (iprop(∃ f, C (F := F) c (cr p 0) (sz p 0 + (sz p 1 + sz p 2)) f) : sProp 𝕄) := by
  iintro ⟨H0, H1, H2⟩
  ihave H := (C_merge (F := F) c (cr p 1) (sz p 1) (cr p 2) (sz p 2) _ (by revert p; decide) rfl) $$ [H1 H2]
  · isplitl [H1]; · iexact H1
    iexact H2
  iapply (C_merge (F := F) c (cr p 0) (sz p 0) (cr p 1) (sz p 1 + sz p 2) _ (by revert p; decide) rfl)
  isplitl [H0]; · iexact H0
  iexact H

theorem comm_back (c : Dev nD) : iprop((CX (F := F) c 0 0 ∗ CX c 0 1 ∗ CX c 0 2) ∗ (CX c 1 0 ∗ CX c 1 1 ∗ CX c 1 2) ∗ (CX c 2 0 ∗ CX c 2 1 ∗ CX c 2 2)) ⊢
    (iprop(∃ f : Vec F S1792x1024 .bf16, ((c : Thread nD τ).loc cc0_scratch2) ↦{fullShare} f) : sProp 𝕄) := by
  iintro ⟨H0, H1, H2⟩
  ihave H0 := (part_back c 0) $$ H0
  ihave H1 := (part_back c 1) $$ H1
  ihave H2 := (part_back c 2) $$ H2
  ihave H := (C_merge (F := F) c (cr 1 0) (sz 1 0 + (sz 1 1 + sz 1 2)) (cr 2 0) (sz 2 0 + (sz 2 1 + sz 2 2)) 1176 (by decide) (by decide)) $$ [H1 H2]
  · isplitl [H1]; · iexact H1
    iexact H2
  ihave H := (C_merge (F := F) c (cr 0 0) (sz 0 0 + (sz 0 1 + sz 0 2)) (cr 1 0) 1176 1792 (by decide) (by decide)) $$ [H0 H]
  · isplitl [H0]; · iexact H0
    iexact H
  icases H with ⟨%f, H⟩
  iexists f
  rw [comm_eq]; iexact H

/-! ## The working buffer, per part -/

theorem work_eq (c : Dev nD) (f : Vec F S2048x1024 .bf16) :
    (((c : Thread nD τ).loc cc0_scratch1) ↦{fullShare} f : sProp 𝕄) = iprop(W c (R0 0) (2 * Hs 0) f ∗ W c (R0 1) (2 * Hs 1) f ∗ W c (R0 2) (2 * Hs 2) f) := by
  have e : (((c : Thread nD τ).loc cc0_scratch1) ↦{fullShare} f : sProp 𝕄) = W c 0 (704 + (704 + 640)) f := by
    unfold W
    rw [show rows 2048 1024 0 (704 + (704 + 640)) = Finset.univ from Finset.eq_univ_iff_forall.mpr fun j => mem_rows.mpr ⟨Nat.zero_le _, by have : (j 0).val < 2048 := (j 0).isLt; omega⟩]
  rw [e, W_add c 0 704 _ f, W_add c (0 + 704) 704 _ f]; rfl

theorem part_eq (c : Dev nD) (p : Fin 3) (f : Vec F S2048x1024 .bf16) :
    W c (R0 p) (2 * Hs p) f = iprop(W c (oH c p) (Hs p) f ∗ W c (oQ c p) (Qs p) f ∗ W c (o1 c p) (Qs p) f) := by
  rw [W_halves c (halves0 c p), ← W_halves c (halves1 c p), ← Hs_eq]

theorem keep_eq (c : Dev nD) (p : Fin 3) (f : Vec F S2048x1024 .bf16) :
    W c (o1 c p) (Qs p) f = iprop(W c (oE c p) (Es p) f ∗ W c (o2 c p) (Es p) f) := by
  rw [← W_halves c (halves2 c p), ← Qs_eq]

theorem half_eq (c : Dev nD) (p : Fin 3) (f : Vec F S2048x1024 .bf16) :
    W c (o0 c p) (Hs p) f = iprop(W c (oQ c p) (Qs p) f ∗ W c (o1 c p) (Qs p) f) := by
  rw [← W_halves c (halves1 c p), ← Hs_eq]

end Cert.KernelIdeal.Run

end
-- ==== Proof.KernelIdeal.Wts.lean ====
/- The buffer of weights as the kernel fills it, column by column. -/
module

public import proofs.«01_k».proof.Proof.KernelIdeal.Mem

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The weights' buffer -/

/-- The weights' buffer with its first `e` columns written. -/
def wUp (c : Dev nD) (e : ℕ) (f : Vec F S2048x8 .f32) : Vec F S2048x8 .f32 := fun j => if (j 1).val < e then wS m c j else f j

theorem wUp_all (c : Dev nD) (f : Vec F S2048x8 .f32) : wUp m c 8 f = wS m c :=
  funext fun j => if_pos (j 1).isLt

/-- Column `e` of the weights, as the kernel computes it. -/
abbrev wC (c : Dev nD) (e : ℕ) : FVec F S2048x1 .f32 :=
  wcol (dw c) (k0_pay3 (idxCol (iS m c) 0)) (k0_pay4 (idxCol (iS m c) 1)) (k0_pay8 (xS m c) (rS m c) (idxCol (iS m c) 0) (idxCol (iS m c) 1))
    (k0_pay9 (xS m c) (rS m c) (idxCol (iS m c) 0) (idxCol (iS m c) 1)) e

theorem emb_col (e : ℕ) {off : Fin 2 → ℕ} (h : off = ![0, e]) (inb) (x : S2048x1.Idx) :
    (Rect.unit (s := S2048x8) off S2048x1.size inb).emb x = Shape.pair (d := ![2048, 8]) (x 0) (Fin.ofNat 8 e) := by
  subst h
  have hb : e + 1 ≤ 8 := inb 1
  have hx : (x 1).val < 1 := (x 1).isLt
  funext b; apply Fin.ext; rw [Rect.emb_apply]
  fin_cases b
  · show 0 + 1 * (x 0).val = (x 0).val
    omega
  · show e + 1 * (x 1).val = e % 8
    rw [Nat.mod_eq_of_lt (by omega)]; omega

/-- A store of column `e`. -/
theorem st_w {α : Type} {Q : α → sProp 𝕄} (c : Dev nD) (e : ℕ) (f : Vec F S2048x8 .f32) {off : Fin 2 → ℕ} (hoff : off = ![0, e]) {inb} (v : FVec F S2048x1 .f32)
    (hv : v = wC m c e)
    {hx : ((wM : Memref sig .tc .vmem S2048x8 .f32).access (Rect.unit (s := S2048x8) off S2048x1.size inb)).Stores Finset.univ} {hm}
    {k : PUnit → Prog (TpuEff nD τ sig (Elt F) Λ₀ .tc) α} :
    (((c : Thread nD τ).loc cc0_scratch0) ↦{fullShare} wUp m c e f : sProp 𝕄) ⊢ iprop(((((c : Thread nD τ).loc cc0_scratch0) ↦{fullShare} wUp m c (e + 1) f) -∗ wp frame (wpE (defs₀ (F := F)) 𝒱₀ (c : Thread nD τ) none) Set.univ (k ⟨⟩) Q)
      -∗ wp frame (wpE (defs₀ (F := F)) 𝒱₀ (c : Thread nD τ) none) Set.univ
          (.op (.store wM (Rect.unit (s := S2048x8) off S2048x1.size inb) v Finset.univ hx hm) k) Q) := by
  have he : e < 8 := by subst hoff; exact inb 1
  have hw : wUp m c (e + 1) f = ((wM : Memref sig .tc .vmem S2048x8 .f32).access (Rect.unit (s := S2048x8) off S2048x1.size inb) : View sig .tc _ _ _).write (Elt F) (wUp m c e f) v Finset.univ := by
    funext j
    by_cases hj : (j 1).val = e
    · have hemb : (Rect.unit (s := S2048x8) off S2048x1.size inb).emb (Shape.pair (d := ![2048, 1]) (j 0) (0 : Fin 1)) = j := by
        rw [emb_col e hoff]
        conv_rhs => rw [← Shape.pair_eta j]
        congr 1; apply Fin.ext; show e % 8 = (j 1).val; rw [Nat.mod_eq_of_lt he, hj]
      conv_rhs => rw [← hemb]
      refine Eq.trans ?_ (View.write_emb_of_mem (v := ((wM : Memref sig .tc .vmem S2048x8 .f32).access (Rect.unit (s := S2048x8) off S2048x1.size inb) : View sig .tc _ _ _)) (Val := Elt F) (wUp m c e f) v (Finset.mem_univ _)).symm
      show wUp m c (e + 1) f j = v _
      rw [hv]
      unfold wUp; rw [if_pos (by omega)]
      show wC m c (j 1).val _ = _
      rw [hj]
    · rw [View.write_of_not_mem]
      · unfold wUp; dsimp only
        by_cases h2 : (j 1).val < e
        · rw [if_pos h2, if_pos (by omega)]
        · rw [if_neg h2, if_neg (by omega)]
      · intro hmem
        have h3 : j ∈ (Rect.unit (s := S2048x8) off S2048x1.size inb).set := (Finset.ext_iff.mp (View.set_slice_whole _ _) j).mp hmem
        rw [Rect.mem_set_unit] at h3
        have h4 := h3 1; subst hoff
        have : e ≤ (j 1).val ∧ (j 1).val < e + 1 := h4
        omega
  rw [hw]
  have hsub : ((wM : Memref sig .tc .vmem S2048x8 .f32).access (Rect.unit (s := S2048x8) off S2048x1.size inb) : View sig .tc _ _ _).setOn Finset.univ ⊆ Finset.univ := Finset.subset_univ _
  exact wp_store (Q := Q) (defs := defs₀ (F := F)) 𝒱₀ (c : Thread nD τ) none Set.univ (m := wM) (r := Rect.unit (s := S2048x8) off S2048x1.size inb) (w := v) (Mk := Finset.univ) (hx := hx) (hm := hm) (k := k) (f := wUp m c e f) hsub

/-- A column of the routing indices. -/
theorem ld_i {α : Type} {Q : α → sProp 𝕄} (c : Dev nD) (e : Fin 2) (f : Vec F S2048x2 .i32) {off : Fin 2 → ℕ} (hoff : off = ![0, e.val]) {inb}
    {hl : (iM : Memref sig .tc .vmem S2048x2 .i32).view.LoadsAt (Rect.unit (s := S2048x2) off S2048x1.size inb).toLoadRect}
    {k : Vec F S2048x1 .i32 → Prog (TpuEff nD τ sig (Elt F) Λ₀ .tc) α} :
    (((c : Thread nD τ).loc cc0_stg2_0) ↦{fullShare} f : sProp 𝕄) ⊢ iprop(((((c : Thread nD τ).loc cc0_stg2_0) ↦{fullShare} f) -∗ wp frame (wpE (defs₀ (F := F)) 𝒱₀ (c : Thread nD τ) none) Set.univ (k (idxCol f e)) Q)
      -∗ wp frame (wpE (defs₀ (F := F)) 𝒱₀ (c : Thread nD τ) none) Set.univ (.op (.load iM (Rect.unit (s := S2048x2) off S2048x1.size inb).toLoadRect hl) k) Q) := by
  have hr : (iM : Memref sig .tc .vmem S2048x2 .i32).view.readAt (Elt F) (Rect.unit (s := S2048x2) off S2048x1.size inb).toLoadRect f = idxCol f e := by
    funext x
    refine congrArg f ?_
    subst hoff
    have hx : (x 1).val < 1 := (x 1).isLt
    funext b; apply Fin.ext
    refine (Rect.emb_apply (r := Rect.unit (s := S2048x2) ![0, e.val] S2048x1.size inb) x b).trans ?_
    fin_cases b
    · show 0 + 1 * (x 0).val = (x 0).val
      omega
    · show e.val + 1 * (x 1).val = e.val
      omega
  rw [← hr]
  exact wp_load 𝒱₀ (c : Thread nD τ) none Set.univ (m := iM) (Finset.subset_univ _)

theorem hz2 : (![0, 0] : Fin 2 → Nat) = fun _ => 0 := funext fun a => by fin_cases a <;> rfl

end Cert.KernelIdeal.Run

end
-- ==== Proof.KernelIdeal.Ops.lean ====
/- The body's operations on the exchange, each as one rule on named assertions. -/
module

public import proofs.«01_k».proof.Proof.KernelIdeal.Vals
public import proofs.«01_k».proof.Proof.KernelIdeal.Wts

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The debt of a device that still has `n` sends to make, with the levels of the cells. -/
def OL (c : Dev nD) (n : ℕ) : sProp 𝕄 := iprop(levAts L lv ∗ OW (F := F) c n)

/-- A store of the rows held. -/
theorem put {α : Type} {Q : α → sProp 𝕄} (c : Dev nD) (a n : ℕ) (f g : Vec F S2048x1024 .bf16) {n' : ℕ} (hn' : n' = n) (hn : 0 < n') {off : Fin 2 → ℕ} (hoff : off = ![a, 0]) {inb} (v : Vec F ⟨2, ![n', 1024]⟩ .bf16)
    (hg : ∀ j : S2048x1024.Idx, a ≤ (j 0).val → (j 0).val < a + n' → g j = place (F := F) (M := 2048) (N := 1024) (e := .bf16) a n' hn v j)
    {hx : ((kM : Memref sig .tc .vmem S2048x1024 .bf16).access (Rect.unit (s := S2048x1024) off (⟨2, ![n', 1024]⟩ : Shape).size inb)).Stores Finset.univ} {hm}
    {k : PUnit → Prog (TpuEff nD τ sig (Elt F) Λ₀ .tc) α} :
    W c a n f ⊢ iprop((W c a n g -∗ wp frame (wpE (defs₀ (F := F)) 𝒱₀ (c : Thread nD τ) none) Set.univ (k ⟨⟩) Q)
      -∗ wp frame (wpE (defs₀ (F := F)) 𝒱₀ (c : Thread nD τ) none) Set.univ
          (.op (.store kM (Rect.unit (s := S2048x1024) off (⟨2, ![n', 1024]⟩ : Shape).size inb) v Finset.univ hx hm) k) Q) := by
  subst hn'; exact st_k c a hoff f g hn v hg

/-- The send of halving step `s` of part `p`. -/
theorem snd {α : Type} {Q : α → sProp 𝕄} (c : Dev nD) (p s : Fin 3) (s' : Fin 6) (hs' : s' = hs s) (N : ℕ) (hN : ps (17 - N) = (p, s')) (X : sProp 𝕄) (hX : X = W c (so c p s') (sz p s') (wv m s.val c))
    {n : ℕ} (hn : n = sz p s') {nd : Dev nD} (hd : nd = pr c p s')
    {off off' : Fin 2 → ℕ} (hoff : off = ![so c p s', 0]) (hoff' : off' = ![cr p s, 0]) {q q' : DmaSem sig} (hq : q = sD p s') (hq' : q' = rD p s')
    {inb hu inb' hu'} {hsc hsrc hdst hsem} {k : PUnit → Prog (TpuEff nD τ sig (Elt F) Λ₀ .tc) α} :
    stA m c p s' ⊢ iprop(X -∗ lendIn c p s -∗ OL (F := F) c (N + 1) -∗ (stB m c p s' -∗ OL (F := F) c N -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma ((kM : Memref sig .tc .vmem S2048x1024 .bf16).slice (Rect.unit (s := S2048x1024) off (⟨2, ![n, 1024]⟩ : Shape).size inb) hu)
              (.remote (Dev.tc nd : Thread nD τ) ((cM : Memref sig .tc .vmem S1792x1024 .bf16).slice (Rect.unit (s := S1792x1024) off' (⟨2, ![n, 1024]⟩ : Shape).size inb') hu') (.dma q) hsc) (.dma q') hsrc hdst hsem) k) Q) := by
  subst hs' hX
  unfold OL lendIn
  iintro HA HX HL ⟨#Hlev, HO⟩ Hk
  iapply (send_rs m c p s N hN hn nd hd hoff hoff' q q' hq hq') $$ [HA HX HL HO]
  · isplitl [HA]; · iexact HA
    isplitl [HX]; · iexact HX
    isplitl [HL]; · iexact HL
    iexact HO
  iintro ⟨HB, HO⟩
  iapply Hk $$ HB
  isplitr; · iexact Hlev
  iexact HO

/-- The send of doubling step `s` of part `p`. -/
theorem snd' {α : Type} {Q : α → sProp 𝕄} (c : Dev nD) (p : Fin 3) (s : Fin 6) (hs3 : 3 ≤ s.val) (N : ℕ) (hN : ps (17 - N) = (p, s)) (X Y : sProp 𝕄) (g : Vec F S2048x1024 .bf16) (hX : X = W c (so c p s) (sz p s) (fin m))
    (hY : Y = W (pr c p s) (so c p s) (sz p s) g)
    {n : ℕ} (hn : n = sz p s) {nd : Dev nD} (hd : nd = pr c p s)
    {off off' : Fin 2 → ℕ} (hoff : off = ![so c p s, 0]) (hoff' : off' = ![so c p s, 0]) {q q' : DmaSem sig} (hq : q = sD p s) (hq' : q' = rD p s)
    {inb hu inb' hu'} {hsc hsrc hdst hsem} {k : PUnit → Prog (TpuEff nD τ sig (Elt F) Λ₀ .tc) α} :
    stA m c p s ⊢ iprop(X -∗ Y -∗ OL (F := F) c (N + 1) -∗ (stB m c p s -∗ OL (F := F) c N -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma ((kM : Memref sig .tc .vmem S2048x1024 .bf16).slice (Rect.unit (s := S2048x1024) off (⟨2, ![n, 1024]⟩ : Shape).size inb) hu)
              (.remote (Dev.tc nd : Thread nD τ) ((kM : Memref sig .tc .vmem S2048x1024 .bf16).slice (Rect.unit (s := S2048x1024) off' (⟨2, ![n, 1024]⟩ : Shape).size inb') hu') (.dma q) hsc) (.dma q') hsrc hdst hsem) k) Q) := by
  subst hX hY
  unfold OL
  iintro HA HX HY ⟨#Hlev, HO⟩ Hk
  iapply (send_ag m c p s hs3 N hN hn nd hd hoff hoff' q q' hq hq') $$ [HA HX HY HO]
  · isplitl [HA]; · iexact HA
    isplitl [HX]; · iexact HX
    isplitl [HY]; · iexists g; iexact HY
    iexact HO
  iintro ⟨HB, HO⟩
  iapply Hk $$ HB
  isplitr; · iexact Hlev
  iexact HO

/-- The wait on the send cell of step `s` of part `p`. -/
theorem wts {α : Type} {Q : α → sProp 𝕄} (c : Dev nD) (p : Fin 3) (s : Fin 6) {Z : sProp 𝕄} (hZ : sendPay m c p s = Z) (N : ℕ) (hN : N ≤ 18) {q : DmaSem sig} (hq : q = sD p s)
    {sp₁ sp₂ : Space} {s₁ : Shape} {e₁ : EltTy} {src : Memref sig .tc sp₁ s₁ e₁} {dst : Memref sig .tc sp₂ s₁ e₁} (hamt : dst.view.dmaCredit = amt p s) {h₁ h₂}
    {k : PUnit → Prog (TpuEff nD τ sig (Elt F) Λ₀ .tc) α} :
    stB m c p s ⊢ iprop(OL (F := F) c N -∗ (stD m c p s -∗ Z -∗ OL (F := F) c N -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h₁ h₂) k) Q) := by
  subst hZ
  unfold OL
  iintro HB ⟨#Hlev, HO⟩ Hk
  iapply (wait_send m c p s N hN q hq hamt) $$ [HB HO]
  · isplitr; · iexact Hlev
    isplitl [HB]; · iexact HB
    iexact HO
  iintro ⟨HD, HZ, HO⟩
  iapply Hk $$ HD HZ
  isplitr; · iexact Hlev
  iexact HO

/-- The wait on the receive cell of step `s` of part `p`. -/
theorem wtr {α : Type} {Q : α → sProp 𝕄} (c : Dev nD) (p : Fin 3) (s : Fin 6) {Z : sProp 𝕄} (hZ : recvPay m c p s = Z) (N : ℕ) (hN : N ≤ 18) (hl : 2 + s.val < 2 + (18 - N) / 3) {q : DmaSem sig} (hq : q = rD p s)
    {sp₁ sp₂ : Space} {s₁ : Shape} {e₁ : EltTy} {src : Memref sig .tc sp₁ s₁ e₁} {dst : Memref sig .tc sp₂ s₁ e₁} (hamt : dst.view.dmaCredit = amt p s) {h₁ h₂}
    {k : PUnit → Prog (TpuEff nD τ sig (Elt F) Λ₀ .tc) α} :
    stD m c p s ⊢ iprop(OL (F := F) c N -∗ (stZ (F := F) c p s -∗ Z -∗ OL (F := F) c N -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h₁ h₂) k) Q) := by
  subst hZ
  unfold OL
  iintro HB ⟨#Hlev, HO⟩ Hk
  iapply (wait_recv m c p s N hN hl q hq hamt) $$ [HB HO]
  · isplitr; · iexact Hlev
    isplitl [HB]; · iexact HB
    iexact HO
  iintro ⟨HD, HZ, HO⟩
  iapply Hk $$ HD HZ
  isplitr; · iexact Hlev
  iexact HO

/-! ## What the waits of each step give back -/

theorem sent0 (c : Dev nD) (p : Fin 3) : sendPay m c p 0 = iprop(emp) := sendPay_rs m c p 0
theorem sent1 (c : Dev nD) (p : Fin 3) : sendPay m c p 1 = iprop(emp) := sendPay_rs m c p 1
theorem sent2 (c : Dev nD) (p : Fin 3) : sendPay m c p 2 = iprop(emp) := sendPay_rs m c p 2
theorem sent3 (c : Dev nD) (p : Fin 3) : sendPay m c p 3 = W c (o2 c p) (Es p) (fin m) := sendPay_ag m c p 3 (by decide)
theorem sent4 (c : Dev nD) (p : Fin 3) : sendPay m c p 4 = W c (o1 c p) (Qs p) (fin m) := sendPay_ag m c p 4 (by decide)
theorem sent5 (c : Dev nD) (p : Fin 3) : sendPay m c p 5 = W c (o0 c p) (Hs p) (fin m) := sendPay_ag m c p 5 (by decide)

theorem got0 (c : Dev nD) (p : Fin 3) : recvPay m c p 0 =
    iprop(C c (cr p 0) (Hs p) (sh (cr p 0) (o0 c p) (P m (pr c p 0))) ∗ W (pr c p 0) (o0 c p) (Hs p) (P m (pr c p 0))) := recvPay_rs m c p 0
theorem got1 (c : Dev nD) (p : Fin 3) : recvPay m c p 1 =
    iprop(C c (cr p 1) (Qs p) (sh (cr p 1) (o1 c p) (wv m 1 (pr c p 1))) ∗ W (pr c p 1) (o1 c p) (Qs p) (wv m 1 (pr c p 1))) := recvPay_rs m c p 1
theorem got2 (c : Dev nD) (p : Fin 3) : recvPay m c p 2 =
    iprop(C c (cr p 2) (Es p) (sh (cr p 2) (o2 c p) (wv m 2 (pr c p 2))) ∗ W (pr c p 2) (o2 c p) (Es p) (wv m 2 (pr c p 2))) := recvPay_rs m c p 2
theorem got3 (c : Dev nD) (p : Fin 3) : recvPay m c p 3 = W c (oE c p) (Es p) (fin m) := recvPay_ag m c p 0 3 rfl
theorem got4 (c : Dev nD) (p : Fin 3) : recvPay m c p 4 = W c (oQ c p) (Qs p) (fin m) := recvPay_ag m c p 1 4 rfl
theorem got5 (c : Dev nD) (p : Fin 3) : recvPay m c p 5 = W c (oH c p) (Hs p) (fin m) := recvPay_ag m c p 2 5 rfl

end Cert.KernelIdeal.Run

end
-- ==== Proof.KernelIdeal.Body.lean ====
/- The kernel body, executed symbolically on one device. -/
module

public import Idealize.ShloMosaic.Lib.Pipeline.Value
public import proofs.«01_k».proof.Proof.KernelIdeal.Ops

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev pts (c : Dev nD) (b : Ref sig .tc) (f : Buf (Elt F) ((c : Thread nD τ).loc b)) : sProp 𝕄 := iprop(((c : Thread nD τ).loc b) ↦{fullShare} f)

/-- A part's six steps before their sends. -/
def stAs (c : Dev nD) (p : Fin 3) : sProp 𝕄 := iprop(stA m c p 0 ∗ stA m c p 1 ∗ stA m c p 2 ∗ stA m c p 3 ∗ stA m c p 4 ∗ stA m c p 5)
/-- A part's six steps done. -/
def stZs (c : Dev nD) (p : Fin 3) : sProp 𝕄 := iprop(stZ (F := F) c p 0 ∗ stZ c p 1 ∗ stZ c p 2 ∗ stZ c p 3 ∗ stZ c p 4 ∗ stZ c p 5)

/-- What the body starts from. -/
def bPre (c : Dev nD) : sProp 𝕄 :=
  iprop((pts (F := F) c cc0_stg0_0 (xS m c) ∗ pts (F := F) c cc0_stg1_0 (rS m c) ∗ pts (F := F) c cc0_stg2_0 (iS m c) ∗ pts (F := F) c cc0_stg3_0 (eS m c) ∗ (∃ g, pts (F := F) c cc0_stg4_0 g))
    ∗ ((∃ g, pts (F := F) c cc0_scratch0 g) ∗ (∃ g, pts (F := F) c cc0_scratch1 g) ∗ (∃ g, pts (F := F) c cc0_scratch2 g))
    ∗ (stAs m c 0 ∗ stAs m c 1 ∗ stAs m c 2) ∗ (stT m c 0 ∗ stT m c 1 ∗ stT m c 2 ∗ stW m c) ∗ levAts L lv ∗ (∃ Wt, owes (c : Thread nD τ) (O₀ c) Wt))

/-- What the body ends with. -/
def bPost (c : Dev nD) : sProp 𝕄 :=
  iprop((pts (F := F) c cc0_stg0_0 (xS m c) ∗ pts (F := F) c cc0_stg1_0 (rS m c) ∗ pts (F := F) c cc0_stg2_0 (iS m c) ∗ pts (F := F) c cc0_stg3_0 (eS m c) ∗ pts (F := F) c cc0_stg4_0 (outS m))
    ∗ ((∃ g, pts (F := F) c cc0_scratch0 g) ∗ (∃ g, pts (F := F) c cc0_scratch1 g) ∗ (∃ g, pts (F := F) c cc0_scratch2 g))
    ∗ (stZs (F := F) c 0 ∗ stZs (F := F) c 1 ∗ stZs (F := F) c 2) ∗ semVal (barCell c) 0 ∗ OL (F := F) c 0)

theorem read_x (f : Vec F S2048x512 .f32) (inb) : (xM : Memref sig .tc .vmem S2048x512 .f32).view.readAt (Elt F) (Rect.unit (s := S2048x512) ![0, 0] S2048x512.size inb).toLoadRect f = f :=
  Memref.readAt_unit_zero (Elt F) cc0_stg0_0 hz2 _ f
theorem read_r (f : Vec F S512x64 .f32) (inb) : (gM : Memref sig .tc .vmem S512x64 .f32).view.readAt (Elt F) (Rect.unit (s := S512x64) ![0, 0] S512x64.size inb).toLoadRect f = f :=
  Memref.readAt_unit_zero (Elt F) cc0_stg1_0 hz2 _ f

theorem ol_intro (c : Dev nD) (n : ℕ) : iprop(levAts L lv ∗ OW (F := F) c n) ⊢ OL (F := F) c n := Entails.of_eq rfl

/-- A load of one expert's matrix. -/
theorem lde (c : Dev nD) {α : Type} {Q : α → sProp 𝕄} (f : Vec F S8x512x1024 .f32) {r : LoadRect S8x512x1024}
    {hl : (eM : Memref sig .tc .vmem S8x512x1024 .f32).view.LoadsAt r}
    {k : Vec F r.shape .f32 → Prog (TpuEff nD τ sig (Elt F) Λ₀ .tc) α} :
    pts c cc0_stg3_0 f ⊢ iprop((pts c cc0_stg3_0 f -∗ wp frame (wpE (defs₀ (F := F)) 𝒱₀ (c : Thread nD τ) none) Set.univ (k ((eM : Memref sig .tc .vmem S8x512x1024 .f32).view.readAt (Elt F) r f)) Q)
      -∗ wp frame (wpE (defs₀ (F := F)) 𝒱₀ (c : Thread nD τ) none) Set.univ (.op (.load eM r hl) k) Q) :=
  wp_load 𝒱₀ (c : Thread nD τ) none Set.univ (m := eM) (Finset.subset_univ _)

/-- A load of the weights' buffer whose value is not used. -/
theorem ldw (c : Dev nD) {α : Type} {Q : α → sProp 𝕄} (f : Vec F S2048x8 .f32) {r : LoadRect S2048x8}
    {hl : (wM : Memref sig .tc .vmem S2048x8 .f32).view.LoadsAt r}
    {k : Vec F r.shape .f32 → Prog (TpuEff nD τ sig (Elt F) Λ₀ .tc) α} :
    pts c cc0_scratch0 f ⊢ iprop((pts c cc0_scratch0 f -∗ wp frame (wpE (defs₀ (F := F)) 𝒱₀ (c : Thread nD τ) none) Set.univ (k ((wM : Memref sig .tc .vmem S2048x8 .f32).view.readAt (Elt F) r f)) Q)
      -∗ wp frame (wpE (defs₀ (F := F)) 𝒱₀ (c : Thread nD τ) none) Set.univ (.op (.load wM r hl) k) Q) :=
  wp_load 𝒱₀ (c : Thread nD τ) none Set.univ (m := wM) (Finset.subset_univ _)

/-- One sum: the rows held and the landed rows read, their sum stored over the rows held. -/
theorem addk {α : Type} {Q : α → sProp 𝕄} (c : Dev nD) (a n b b₀ n₀ : ℕ) (f g : Vec F S2048x1024 .bf16) (h : Vec F S1792x1024 .bf16) {n' : ℕ} (hn' : n' = n) (hn : 0 < n')
    {off off' : Fin 2 → ℕ} (hoff : off = ![a, 0]) (hoff' : off' = ![b, 0]) (hb1 : b₀ ≤ b) (hb2 : b + n' ≤ b₀ + n₀) {inb inb'}
    {pay : Vec F ⟨2, ![n', 1024]⟩ .bf16 → Vec F ⟨2, ![n', 1024]⟩ .bf16 → Vec F ⟨2, ![n', 1024]⟩ .bf16}
    (hg : ∀ j : S2048x1024.Idx, a ≤ (j 0).val → (j 0).val < a + n' → g j = place (F := F) (M := 2048) (N := 1024) (e := .bf16) a n' hn (pay (rowsOf a n' f) (rowsOf b n' h)) j)
    {hl : (kM : Memref sig .tc .vmem S2048x1024 .bf16).view.LoadsAt (Rect.unit (s := S2048x1024) off (⟨2, ![n', 1024]⟩ : Shape).size inb).toLoadRect}
    {hl' : (cM : Memref sig .tc .vmem S1792x1024 .bf16).view.LoadsAt (Rect.unit (s := S1792x1024) off' (⟨2, ![n', 1024]⟩ : Shape).size inb').toLoadRect}
    {hl'' : (kM : Memref sig .tc .vmem S2048x1024 .bf16).view.LoadsAt (Rect.unit (s := S2048x1024) off (⟨2, ![n', 1024]⟩ : Shape).size inb).toLoadRect}
    {hx : ((kM : Memref sig .tc .vmem S2048x1024 .bf16).access (Rect.unit (s := S2048x1024) off (⟨2, ![n', 1024]⟩ : Shape).size inb)).Stores Finset.univ} {hm}
    {k : PUnit → Prog (TpuEff nD τ sig (Elt F) Λ₀ .tc) α} :
    W c a n f ⊢ iprop(C c b₀ n₀ h -∗ (W c a n g -∗ C c b₀ n₀ h -∗ wp frame (wpE (defs₀ (F := F)) 𝒱₀ (c : Thread nD τ) none) Set.univ (k ⟨⟩) Q)
      -∗ wp frame (wpE (defs₀ (F := F)) 𝒱₀ (c : Thread nD τ) none) Set.univ
          (.op (.load kM (Rect.unit (s := S2048x1024) off (⟨2, ![n', 1024]⟩ : Shape).size inb).toLoadRect hl) fun x =>
            .op (.load cM (Rect.unit (s := S1792x1024) off' (⟨2, ![n', 1024]⟩ : Shape).size inb').toLoadRect hl') fun y =>
              .op (.load kM (Rect.unit (s := S2048x1024) off (⟨2, ![n', 1024]⟩ : Shape).size inb).toLoadRect hl'') fun _ =>
                .op (.store kM (Rect.unit (s := S2048x1024) off (⟨2, ![n', 1024]⟩ : Shape).size inb) (pay x y) Finset.univ hx hm) k) Q) := by
  subst hn'
  iintro HW HC Hk
  iapply (ld_k c a hoff _ _ _ le_rfl le_rfl) $$ HW; iintro HW
  iapply (ld_c c b hoff' _ _ _ hb1 hb2) $$ HC; iintro HC
  iapply (ld_k c a hoff _ _ _ le_rfl le_rfl) $$ HW; iintro HW
  iapply (st_k c a hoff f g hn _ hg) $$ HW; iintro HW
  iapply Hk $$ HW HC

theorem keep_join (c : Dev nD) (p : Fin 3) : W c (oE c p) (Es p) (fin m) ⊢ (iprop(W c (o2 c p) (Es p) (fin m) -∗ W c (o1 c p) (Qs p) (fin m)) : sProp 𝕄) := by
  rw [keep_eq]; iintro H1 H2; isplitl [H1]; · iexact H1
  iexact H2
theorem half_join (c : Dev nD) (p : Fin 3) : W c (oQ c p) (Qs p) (fin m) ⊢ (iprop(W c (o1 c p) (Qs p) (fin m) -∗ W c (o0 c p) (Hs p) (fin m)) : sProp 𝕄) := by
  rw [half_eq]; iintro H1 H2; isplitl [H1]; · iexact H1
  iexact H2
theorem part_join (c : Dev nD) (p : Fin 3) : W c (oH c p) (Hs p) (fin m) ⊢ (iprop(W c (o0 c p) (Hs p) (fin m) -∗ W c (R0 p) (2 * Hs p) (fin m)) : sProp 𝕄) := by
  rw [W_halves c (halves0 c p)]; iintro H1 H2; isplitl [H1]; · iexact H1
  iexact H2
theorem whole_join (c : Dev nD) : W c (oH c 0) (Hs 0) (fin m) ⊢ (iprop(W c (o0 c 0) (Hs 0) (fin m) -∗ W c (oH c 1) (Hs 1) (fin m) -∗ W c (o0 c 1) (Hs 1) (fin m)
    -∗ W c (oH c 2) (Hs 2) (fin m) -∗ W c (o0 c 2) (Hs 2) (fin m) -∗ (((c : Thread nD τ).loc cc0_scratch1) ↦{fullShare} fin m)) : sProp 𝕄) := by
  rw [work_eq]; iintro A0 B0 A1 B1 A2 B2
  isplitl [A0 B0]; · iapply (part_join m c 0) $$ A0 B0
  isplitl [A1 B1]; · iapply (part_join m c 1) $$ A1 B1
  iapply (part_join m c 2) $$ A2 B2

theorem cx_intro (c : Dev nD) (p : Fin 3) {f g h : Vec F S1792x1024 .bf16} : C c (cr p 0) (Hs p) f ⊢ (iprop(C c (cr p 1) (Qs p) g -∗ C c (cr p 2) (Es p) h -∗ (CX (F := F) c p 0 ∗ CX c p 1 ∗ CX c p 2)) : sProp 𝕄) := by
  iintro H0 H1 H2
  isplitl [H0]; · iexists f; iexact H0
  isplitl [H1]; · iexists g; iexact H1
  iexists h; iexact H2

theorem stZs_intro (c : Dev nD) (p : Fin 3) : stZ (F := F) c p 0 ⊢ (iprop(stZ (F := F) c p 1 -∗ stZ (F := F) c p 2 -∗ stZ (F := F) c p 3 -∗ stZ (F := F) c p 4 -∗ stZ (F := F) c p 5 -∗ stZs (F := F) c p) : sProp 𝕄) := by
  iintro H0 H1 H2 H3 H4 H5
  unfold stZs
  isplitl [H0]; · iexact H0
  isplitl [H1]; · iexact H1
  isplitl [H2]; · iexact H2
  isplitl [H3]; · iexact H3
  isplitl [H4]; · iexact H4
  iexact H5

theorem read_k (f : Vec F S2048x1024 .bf16) (inb) : (kM : Memref sig .tc .vmem S2048x1024 .bf16).view.readAt (Elt F) (Rect.unit (s := S2048x1024) ![0, 0] S2048x1024.size inb).toLoadRect f = f :=
  Memref.readAt_unit_zero (Elt F) cc0_scratch1 hz2 _ f
theorem write_out (f w : Vec F S2048x1024 .f32) (inb) :
    ((oM : Memref sig .tc .vmem S2048x1024 .f32).access (Rect.unit (s := S2048x1024) ![0, 0] S2048x1024.size inb) : View sig .tc _ _ _).write (Elt F) f w Finset.univ = w :=
  Memref.write_access_unit_zero_univ (Elt F) cc0_stg4_0 hz2 _ f w

set_option maxHeartbeats 16000000 in
theorem sound_body (c : Dev nD) (Kt : PUnit → sProp 𝕄) :
    iprop(bPre m c ∗ (bPost m c -∗ Kt ⟨⟩))
      ⊢ wp frame (wpE (defs₀ (F := F)) 𝒱₀ (c : Thread nD τ) none) Set.univ
          (cc0_body xM (Memref.isWhole_whole _) gM (Memref.isWhole_whole _) iM (Memref.isWhole_whole _) eM (Memref.isWhole_whole _) oM (Memref.isWhole_whole _)
            wM (Memref.isWhole_whole _) kM (Memref.isWhole_whole _) cM (Memref.isWhole_whole _) cc0_scratch3 cc0_scratch4) Kt := by
  unfold bPre
  iintro ⟨⟨⟨HX, HR, HI, HE, ⟨%g4, HOut⟩⟩, ⟨⟨%f0, HW⟩, ⟨%f1, HK⟩, ⟨%f2, HC⟩⟩, ⟨HA0, HA1, HA2⟩, ⟨HT0, HT1, HT2, HTW⟩, #Hlev, ⟨%Wt, HO⟩⟩, Hk⟩
  rw [cc0_body_eq_skeleton]; unfold cc0_body_skel
  -- the weights
  rw [k0_part1_eq_skeleton]; unfold k0_part1_skel
  simp only [Prog.lift, Prog.bind_op, Prog.bind_ret, Prog.pure_eq_ret, wp_deviceId]
  iapply (wp_load 𝒱₀ (c : Thread nD τ) none Set.univ (m := xM) (Finset.subset_univ _)) $$ HX; iintro HX; rw [read_x]
  iapply (wp_load 𝒱₀ (c : Thread nD τ) none Set.univ (m := gM) (Finset.subset_univ _)) $$ HR; iintro HR; rw [read_r]
  iapply (ld_i c 0 _ rfl) $$ HI; iintro HI
  iapply (ld_i c 1 _ rfl) $$ HI; iintro HI
  rw [k0_part2_eq_skeleton]; unfold k0_part2_skel
  simp only [Prog.lift, Prog.bind_op, Prog.bind_ret, Prog.pure_eq_ret]
  iapply (ldw c _) $$ HW; iintro HW
  ihave HW := (Entails.of_eq (show pts (F := F) c cc0_scratch0 f0 = (((c : Thread nD τ).loc cc0_scratch0) ↦{fullShare} wUp m c 0 f0 : sProp 𝕄) from rfl)) $$ HW
  iapply (st_w m c 0 _ rfl _ rfl) $$ HW; iintro HW
  iapply (ldw c _) $$ HW; iintro HW
  iapply (st_w m c 1 _ rfl _ rfl) $$ HW; iintro HW
  iapply (ldw c _) $$ HW; iintro HW
  iapply (st_w m c 2 _ rfl _ rfl) $$ HW; iintro HW
  rw [k0_part3_eq_skeleton]; unfold k0_part3_skel
  simp only [Prog.lift, Prog.bind_op, Prog.bind_ret, Prog.pure_eq_ret]
  iapply (ldw c _) $$ HW; iintro HW
  iapply (st_w m c 3 _ rfl _ rfl) $$ HW; iintro HW
  iapply (ldw c _) $$ HW; iintro HW
  iapply (st_w m c 4 _ rfl _ rfl) $$ HW; iintro HW
  iapply (ldw c _) $$ HW; iintro HW
  rw [k0_part4_eq_skeleton]; unfold k0_part4_skel
  simp only [Prog.lift, Prog.bind_op, Prog.bind_ret, Prog.pure_eq_ret]
  iapply (st_w m c 5 _ rfl _ rfl) $$ HW; iintro HW
  iapply (ldw c _) $$ HW; iintro HW
  iapply (st_w m c 6 _ rfl _ rfl) $$ HW; iintro HW
  iapply (ldw c _) $$ HW; iintro HW
  iapply (st_w m c 7 _ rfl _ rfl) $$ HW; iintro HW
  rw [show wUp m c (7 + 1) f0 = wS m c from wUp_all m c f0]
  rw [k0_part5_eq_skeleton]; unfold k0_part5_skel
  simp only [Prog.lift, Prog.bind_op, Prog.bind_ret, Prog.pure_eq_ret]
  -- the working buffer by parts
  ihave HK := (Entails.of_eq (work_eq c f1)) $$ HK
  rw [part_eq c 0 f1, part_eq c 1 f1, part_eq c 2 f1]
  icases HK with ⟨⟨KH0, KQ0, KR0⟩, ⟨KH1, KQ1, KR1⟩, KH2, KQ2, KR2⟩
  -- the halves sent first
  rw [k0_part6_eq_skeleton]; unfold k0_part6_skel
  simp only [Prog.lift, Prog.bind_op, Prog.bind_ret, Prog.pure_eq_ret]
  iapply (ld_x c (oH c 0) (off1_eq c) _) $$ HX; iintro HX
  iapply (ld_w c (oH c 0) (off2_eq c) _) $$ HW; iintro HW
  iterate 2 (iapply (lde c _) $$ HE; iintro HE)
  rw [k0_part7_eq_skeleton]; unfold k0_part7_skel
  simp only [Prog.lift, Prog.bind_op, Prog.bind_ret, Prog.pure_eq_ret]
  iterate 6 (iapply (lde c _) $$ HE; iintro HE)
  rw [k0_part8_eq_skeleton]; unfold k0_part8_skel
  simp only [Prog.lift, Prog.bind_op, Prog.bind_ret, Prog.pure_eq_ret]
  iapply (ld_k c (oH c 0) (off3_eq c) _ _ _ le_rfl le_rfl) $$ KH0; iintro KH0
  iapply (put c (oH c 0) (Hs 0) f1 (P m c) rfl (by decide) (off3_eq c) _ (fun j h1 h2 => P_eq m c 0 0 j h1 h2)) $$ KH0; iintro KH0
  iapply (ld_x c (oH c 1) (off4_eq c) _) $$ HX; iintro HX
  iapply (ld_w c (oH c 1) (off5_eq c) _) $$ HW; iintro HW
  iterate 3 (iapply (lde c _) $$ HE; iintro HE)
  rw [k0_part9_eq_skeleton]; unfold k0_part9_skel
  simp only [Prog.lift, Prog.bind_op, Prog.bind_ret, Prog.pure_eq_ret, semSignalWord, semWaitWord]
  iterate 5 (iapply (lde c _) $$ HE; iintro HE)
  iapply (ld_k c (oH c 1) (off6_eq c) _ _ _ le_rfl le_rfl) $$ KH1; iintro KH1
  iapply (put c (oH c 1) (Hs 1) f1 (P m c) rfl (by decide) (off6_eq c) _ (fun j h1 h2 => P_eq m c 1 0 j h1 h2)) $$ KH1; iintro KH1
  rw [k0_part10_eq_skeleton]; unfold k0_part10_skel
  simp only [Prog.lift, Prog.bind_op, Prog.bind_ret, Prog.pure_eq_ret, semSignalWord, semWaitWord]
  iapply (ld_x c (oH c 2) (off7_eq c) _) $$ HX; iintro HX
  iapply (ld_w c (oH c 2) (off8_eq c) _) $$ HW; iintro HW
  iterate 5 (iapply (lde c _) $$ HE; iintro HE)
  rw [k0_part11_eq_skeleton]; unfold k0_part11_skel
  simp only [Prog.lift, Prog.bind_op, Prog.bind_ret, Prog.pure_eq_ret, semSignalWord, semWaitWord]
  iterate 3 (iapply (lde c _) $$ HE; iintro HE)
  iapply (ld_k c (oH c 2) (off9_eq c) _ _ _ le_rfl le_rfl) $$ KH2; iintro KH2
  iapply (put c (oH c 2) (Hs 2) f1 (P m c) rfl (by decide) (off9_eq c) _ (fun j h1 h2 => P_eq m c 2 0 j h1 h2)) $$ KH2; iintro KH2
  -- the barrier: the landing rows lent out, the partners' received
  ihave HC := (lend_out c f2) $$ HC
  icases HC with ⟨HL0, HL1, HL2⟩
  iapply (signal m c 0 _ (dev1_eq c) (O₂ c) rfl rfl) $$ [HT0 HL0 HO]
  · isplitl [HT0]; · iexact HT0
    isplitl [HL0]; · iexact HL0
    iexact HO
  iintro HO
  iapply (signal m c 1 _ (dev2_eq c) (O₁ c) rfl rfl) $$ [HT1 HL1 HO]
  · isplitl [HT1]; · iexact HT1
    isplitl [HL1]; · iexact HL1
    iexact HO
  iintro HO
  rw [k0_part12_eq_skeleton]; unfold k0_part12_skel
  simp only [Prog.lift, Prog.bind_op, Prog.bind_ret, Prog.pure_eq_ret, semSignalWord, semWaitWord]
  iapply (signal m c 2 _ (dev3_eq c) (Ow c 18) rfl rfl) $$ [HT2 HL2 HO]
  · isplitl [HT2]; · iexact HT2
    isplitl [HL2]; · iexact HL2
    iexact HO
  iintro HO
  iapply (bar_wait m c rfl) $$ [HTW HO]
  · isplitr; · iexact Hlev
    isplitl [HTW]; · iexact HTW
    iexact HO
  iintro ⟨HO, HzB, HL0, HL1, HL2⟩
  ihave HL := (lend_ins c) $$ [HL0 HL1 HL2]
  · isplitl [HL0]; · iexact HL0
    isplitl [HL1]; · iexact HL1
    iexact HL2
  icases HL with ⟨⟨L00, L01, L02⟩, ⟨L10, L11, L12⟩, L20, L21, L22⟩
  unfold stAs
  icases HA0 with ⟨A00, A01, A02, A03, A04, A05⟩
  icases HA1 with ⟨A10, A11, A12, A13, A14, A15⟩
  icases HA2 with ⟨A20, A21, A22, A23, A24, A25⟩
  ihave HO := (ol_intro c 18) $$ [HO]
  · isplitr; · iexact Hlev
    iexact HO
  iapply (snd m c 0 0 0 rfl 17 rfl (W c (oH c 0) (Hs 0) (P m c)) rfl rfl (dev4_eq c) (off10_eq c) rfl rfl rfl) $$ A00 KH0 L00 HO; iintro A00 HO
  rw [k0_part13_eq_skeleton]; unfold k0_part13_skel
  simp only [Prog.lift, Prog.bind_op, Prog.bind_ret, Prog.pure_eq_ret, semSignalWord, semWaitWord]
  iapply (snd m c 1 0 0 rfl 16 rfl (W c (oH c 1) (Hs 1) (P m c)) rfl rfl (dev5_eq c) (off11_eq c) rfl rfl rfl) $$ A10 KH1 L10 HO; iintro A10 HO
  iapply (snd m c 2 0 0 rfl 15 rfl (W c (oH c 2) (Hs 2) (P m c)) rfl rfl (dev6_eq c) (off12_eq c) rfl rfl rfl) $$ A20 KH2 L20 HO; iintro A20 HO
  -- the quarters sent second
  iapply (ld_x c (oQ c 0) (off13_eq c) _) $$ HX; iintro HX
  iapply (ld_w c (oQ c 0) (off14_eq c) _) $$ HW; iintro HW
  iterate 2 (iapply (lde c _) $$ HE; iintro HE)
  rw [k0_part14_eq_skeleton]; unfold k0_part14_skel
  simp only [Prog.lift, Prog.bind_op, Prog.bind_ret, Prog.pure_eq_ret, semSignalWord, semWaitWord]
  iterate 6 (iapply (lde c _) $$ HE; iintro HE)
  rw [k0_part15_eq_skeleton]; unfold k0_part15_skel
  simp only [Prog.lift, Prog.bind_op, Prog.bind_ret, Prog.pure_eq_ret, semSignalWord, semWaitWord]
  iapply (ld_k c (oQ c 0) (off15_eq c) _ _ _ le_rfl le_rfl) $$ KQ0; iintro KQ0
  iapply (put c (oQ c 0) (Qs 0) f1 (P m c) rfl (by decide) (off15_eq c) _ (fun j h1 h2 => P_eq m c 0 1 j h1 h2)) $$ KQ0; iintro KQ0
  iapply (ld_x c (oQ c 1) (off16_eq c) _) $$ HX; iintro HX
  iapply (ld_w c (oQ c 1) (off17_eq c) _) $$ HW; iintro HW
  iterate 4 (iapply (lde c _) $$ HE; iintro HE)
  rw [k0_part16_eq_skeleton]; unfold k0_part16_skel
  simp only [Prog.lift, Prog.bind_op, Prog.bind_ret, Prog.pure_eq_ret, semSignalWord, semWaitWord]
  iterate 4 (iapply (lde c _) $$ HE; iintro HE)
  iapply (ld_k c (oQ c 1) (off18_eq c) _ _ _ le_rfl le_rfl) $$ KQ1; iintro KQ1
  iapply (put c (oQ c 1) (Qs 1) f1 (P m c) rfl (by decide) (off18_eq c) _ (fun j h1 h2 => P_eq m c 1 1 j h1 h2)) $$ KQ1; iintro KQ1
  iapply (ld_x c (oQ c 2) (off19_eq c) _) $$ HX; iintro HX
  iapply (ld_w c (oQ c 2) (off20_eq c) _) $$ HW; iintro HW
  rw [k0_part17_eq_skeleton]; unfold k0_part17_skel
  simp only [Prog.lift, Prog.bind_op, Prog.bind_ret, Prog.pure_eq_ret, semSignalWord, semWaitWord]
  iterate 6 (iapply (lde c _) $$ HE; iintro HE)
  rw [k0_part18_eq_skeleton]; unfold k0_part18_skel
  simp only [Prog.lift, Prog.bind_op, Prog.bind_ret, Prog.pure_eq_ret, semSignalWord, semWaitWord]
  iterate 2 (iapply (lde c _) $$ HE; iintro HE)
  iapply (ld_k c (oQ c 2) (off21_eq c) _ _ _ le_rfl le_rfl) $$ KQ2; iintro KQ2
  iapply (put c (oQ c 2) (Qs 2) f1 (P m c) rfl (by decide) (off21_eq c) _ (fun j h1 h2 => P_eq m c 2 1 j h1 h2)) $$ KQ2; iintro KQ2
  -- the first halving step arrives
  iapply (wts m c 0 0 (sent0 m c 0) 15 (by decide) rfl rfl) $$ A00 HO; iintro A00 - HO
  rw [k0_part19_eq_skeleton]; unfold k0_part19_skel
  simp only [Prog.lift, Prog.bind_op, Prog.bind_ret, Prog.pure_eq_ret, semSignalWord, semWaitWord]
  iapply (wtr m c 0 0 (got0 m c 0) 15 (by decide) (by decide) rfl rfl) $$ A00 HO; iintro A00 ⟨C00, D00⟩ HO
  iapply (addk c (oQ c 0) (Qs 0) _ (cr 0 0) (Hs 0) (P m c) (wv m 1 c) _ rfl (by decide) (off15_eq c) (off22_eq c) (Nat.le_add_right _ _) (g_Q c 0).2
    (fun j h1 h2 => hgQ' m c 0 _ _ (shapeCast_self _ _) j h1 h2)) $$ KQ0 C00; iintro KQ0 C00
  iapply (wts m c 1 0 (sent0 m c 1) 15 (by decide) rfl rfl) $$ A10 HO; iintro A10 - HO
  iapply (wtr m c 1 0 (got0 m c 1) 15 (by decide) (by decide) rfl rfl) $$ A10 HO; iintro A10 ⟨C10, D10⟩ HO
  rw [k0_part20_eq_skeleton]; unfold k0_part20_skel
  simp only [Prog.lift, Prog.bind_op, Prog.bind_ret, Prog.pure_eq_ret, semSignalWord, semWaitWord]
  iapply (addk c (oQ c 1) (Qs 1) _ (cr 1 0) (Hs 1) (P m c) (wv m 1 c) _ rfl (by decide) (off18_eq c) (off23_eq c) (Nat.le_add_right _ _) (g_Q c 1).2
    (fun j h1 h2 => hgQ' m c 1 _ _ (shapeCast_self _ _) j h1 h2)) $$ KQ1 C10; iintro KQ1 C10
  iapply (wts m c 2 0 (sent0 m c 2) 15 (by decide) rfl rfl) $$ A20 HO; iintro A20 - HO
  iapply (wtr m c 2 0 (got0 m c 2) 15 (by decide) (by decide) rfl rfl) $$ A20 HO; iintro A20 ⟨C20, D20⟩ HO
  iapply (addk c (oQ c 2) (Qs 2) _ (cr 2 0) (Hs 2) (P m c) (wv m 1 c) _ rfl (by decide) (off21_eq c) (off24_eq c) (Nat.le_add_right _ _) (g_Q c 2).2
    (fun j h1 h2 => hgQ' m c 2 _ _ (shapeCast_self _ _) j h1 h2)) $$ KQ2 C20; iintro KQ2 C20
  rw [k0_part21_eq_skeleton]; unfold k0_part21_skel
  simp only [Prog.lift, Prog.bind_op, Prog.bind_ret, Prog.pure_eq_ret, semSignalWord, semWaitWord]
  iapply (snd m c 0 1 1 rfl 14 rfl (W c (oQ c 0) (Qs 0) (wv m 1 c)) rfl rfl (dev7_eq c) (off25_eq c) rfl rfl rfl) $$ A01 KQ0 L01 HO; iintro A01 HO
  iapply (snd m c 1 1 1 rfl 13 rfl (W c (oQ c 1) (Qs 1) (wv m 1 c)) rfl rfl (dev8_eq c) (off26_eq c) rfl rfl rfl) $$ A11 KQ1 L11 HO; iintro A11 HO
  iapply (snd m c 2 1 1 rfl 12 rfl (W c (oQ c 2) (Qs 2) (wv m 1 c)) rfl rfl (dev9_eq c) (off27_eq c) rfl rfl rfl) $$ A21 KQ2 L21 HO; iintro A21 HO
  -- the quarters kept
  iapply (ld_x c (o1 c 0) (off28_eq c) _) $$ HX; iintro HX
  rw [k0_part22_eq_skeleton]; unfold k0_part22_skel
  simp only [Prog.lift, Prog.bind_op, Prog.bind_ret, Prog.pure_eq_ret, semSignalWord, semWaitWord]
  iapply (ld_w c (o1 c 0) (off29_eq c) _) $$ HW; iintro HW
  iterate 5 (iapply (lde c _) $$ HE; iintro HE)
  rw [k0_part23_eq_skeleton]; unfold k0_part23_skel
  simp only [Prog.lift, Prog.bind_op, Prog.bind_ret, Prog.pure_eq_ret, semSignalWord, semWaitWord]
  iterate 3 (iapply (lde c _) $$ HE; iintro HE)
  iapply (ld_k c (o1 c 0) (off30_eq c) _ _ _ le_rfl le_rfl) $$ KR0; iintro KR0
  iapply (put c (o1 c 0) (Qs 0) f1 (P m c) rfl (by decide) (off30_eq c) _ (fun j h1 h2 => P_eq m c 0 2 j h1 h2)) $$ KR0; iintro KR0
  iapply (ld_x c (o1 c 1) (off31_eq c) _) $$ HX; iintro HX
  iapply (ld_w c (o1 c 1) (off32_eq c) _) $$ HW; iintro HW
  iapply (lde c _) $$ HE; iintro HE
  rw [k0_part24_eq_skeleton]; unfold k0_part24_skel
  simp only [Prog.lift, Prog.bind_op, Prog.bind_ret, Prog.pure_eq_ret, semSignalWord, semWaitWord]
  iterate 6 (iapply (lde c _) $$ HE; iintro HE)
  rw [k0_part25_eq_skeleton]; unfold k0_part25_skel
  simp only [Prog.lift, Prog.bind_op, Prog.bind_ret, Prog.pure_eq_ret, semSignalWord, semWaitWord]
  iapply (lde c _) $$ HE; iintro HE
  iapply (ld_k c (o1 c 1) (off33_eq c) _ _ _ le_rfl le_rfl) $$ KR1; iintro KR1
  iapply (put c (o1 c 1) (Qs 1) f1 (P m c) rfl (by decide) (off33_eq c) _ (fun j h1 h2 => P_eq m c 1 2 j h1 h2)) $$ KR1; iintro KR1
  iapply (ld_x c (o1 c 2) (off34_eq c) _) $$ HX; iintro HX
  iapply (ld_w c (o1 c 2) (off35_eq c) _) $$ HW; iintro HW
  iterate 3 (iapply (lde c _) $$ HE; iintro HE)
  rw [k0_part26_eq_skeleton]; unfold k0_part26_skel
  simp only [Prog.lift, Prog.bind_op, Prog.bind_ret, Prog.pure_eq_ret, semSignalWord, semWaitWord]
  iterate 5 (iapply (lde c _) $$ HE; iintro HE)
  iapply (ld_k c (o1 c 2) (off36_eq c) _ _ _ le_rfl le_rfl) $$ KR2; iintro KR2
  iapply (put c (o1 c 2) (Qs 2) f1 (P m c) rfl (by decide) (off36_eq c) _ (fun j h1 h2 => P_eq m c 2 2 j h1 h2)) $$ KR2; iintro KR2
  rw [k0_part27_eq_skeleton]; unfold k0_part27_skel
  simp only [Prog.lift, Prog.bind_op, Prog.bind_ret, Prog.pure_eq_ret, semSignalWord, semWaitWord]
  iapply (addk c (o1 c 0) (Qs 0) _ (cr 0 0) (Hs 0) (P m c) (wv m 1 c) _ rfl (by decide) (off30_eq c) (off37_eq c) (Nat.le_add_right _ _) (g_1 c 0).2
    (fun j h1 h2 => hgQ m c 0 _ _ (shapeCast_self _ _) j h1 h2)) $$ KR0 C00; iintro KR0 C00
  iapply (addk c (o1 c 1) (Qs 1) _ (cr 1 0) (Hs 1) (P m c) (wv m 1 c) _ rfl (by decide) (off33_eq c) (off38_eq c) (Nat.le_add_right _ _) (g_1 c 1).2
    (fun j h1 h2 => hgQ m c 1 _ _ (shapeCast_self _ _) j h1 h2)) $$ KR1 C10; iintro KR1 C10
  iapply (addk c (o1 c 2) (Qs 2) _ (cr 2 0) (Hs 2) (P m c) (wv m 1 c) _ rfl (by decide) (off36_eq c) (off39_eq c) (Nat.le_add_right _ _) (g_1 c 2).2
    (fun j h1 h2 => hgQ m c 2 _ _ (shapeCast_self _ _) j h1 h2)) $$ KR2 C20; iintro KR2 C20
  ihave KR0' := (Entails.of_eq (keep_eq c 0 (wv m 1 c))) $$ KR0; icases KR0' with ⟨KE0, KF0⟩
  ihave KR1' := (Entails.of_eq (keep_eq c 1 (wv m 1 c))) $$ KR1; icases KR1' with ⟨KE1, KF1⟩
  ihave KR2' := (Entails.of_eq (keep_eq c 2 (wv m 1 c))) $$ KR2; icases KR2' with ⟨KE2, KF2⟩
  -- the second halving step arrives
  rw [k0_part28_eq_skeleton]; unfold k0_part28_skel
  simp only [Prog.lift, Prog.bind_op, Prog.bind_ret, Prog.pure_eq_ret, semSignalWord, semWaitWord]
  iapply (wts m c 0 1 (sent1 m c 0) 12 (by decide) rfl rfl) $$ A01 HO; iintro A01 - HO
  iapply (wtr m c 0 1 (got1 m c 0) 12 (by decide) (by decide) rfl rfl) $$ A01 HO; iintro A01 ⟨C01, D01⟩ HO
  iapply (addk c (oE c 0) (Es 0) _ (cr 0 1) (Qs 0) (wv m 1 c) (wv m 2 c) _ rfl (by decide) (off40_eq c) (off41_eq c) (Nat.le_add_right _ _) (g_E c 0).2.2.2
    (fun j h1 h2 => hgE' m c 0 _ _ (shapeCast_self _ _) j h1 h2)) $$ KE0 C01; iintro KE0 C01
  iapply (wts m c 1 1 (sent1 m c 1) 12 (by decide) rfl rfl) $$ A11 HO; iintro A11 - HO
  rw [k0_part29_eq_skeleton]; unfold k0_part29_skel
  simp only [Prog.lift, Prog.bind_op, Prog.bind_ret, Prog.pure_eq_ret, semSignalWord, semWaitWord]
  iapply (wtr m c 1 1 (got1 m c 1) 12 (by decide) (by decide) rfl rfl) $$ A11 HO; iintro A11 ⟨C11, D11⟩ HO
  iapply (addk c (oE c 1) (Es 1) _ (cr 1 1) (Qs 1) (wv m 1 c) (wv m 2 c) _ rfl (by decide) (off42_eq c) (off43_eq c) (Nat.le_add_right _ _) (g_E c 1).2.2.2
    (fun j h1 h2 => hgE' m c 1 _ _ (shapeCast_self _ _) j h1 h2)) $$ KE1 C11; iintro KE1 C11
  iapply (wts m c 2 1 (sent1 m c 2) 12 (by decide) rfl rfl) $$ A21 HO; iintro A21 - HO
  rw [k0_part30_eq_skeleton]; unfold k0_part30_skel
  simp only [Prog.lift, Prog.bind_op, Prog.bind_ret, Prog.pure_eq_ret, semSignalWord, semWaitWord]
  iapply (wtr m c 2 1 (got1 m c 2) 12 (by decide) (by decide) rfl rfl) $$ A21 HO; iintro A21 ⟨C21, D21⟩ HO
  iapply (addk c (oE c 2) (Es 2) _ (cr 2 1) (Qs 2) (wv m 1 c) (wv m 2 c) _ rfl (by decide) (off44_eq c) (off45_eq c) (Nat.le_add_right _ _) (g_E c 2).2.2.2
    (fun j h1 h2 => hgE' m c 2 _ _ (shapeCast_self _ _) j h1 h2)) $$ KE2 C21; iintro KE2 C21
  iapply (snd m c 0 2 2 rfl 11 rfl (W c (oE c 0) (Es 0) (wv m 2 c)) rfl rfl (dev10_eq c) (off46_eq c) rfl rfl rfl) $$ A02 KE0 L02 HO; iintro A02 HO
  iapply (snd m c 1 2 2 rfl 10 rfl (W c (oE c 1) (Es 1) (wv m 2 c)) rfl rfl (dev11_eq c) (off47_eq c) rfl rfl rfl) $$ A12 KE1 L12 HO; iintro A12 HO
  rw [k0_part31_eq_skeleton]; unfold k0_part31_skel
  simp only [Prog.lift, Prog.bind_op, Prog.bind_ret, Prog.pure_eq_ret, semSignalWord, semWaitWord]
  iapply (snd m c 2 2 2 rfl 9 rfl (W c (oE c 2) (Es 2) (wv m 2 c)) rfl rfl (dev12_eq c) (off48_eq c) rfl rfl rfl) $$ A22 KE2 L22 HO; iintro A22 HO
  iapply (addk c (o2 c 0) (Es 0) _ (cr 0 1) (Qs 0) (wv m 1 c) (wv m 2 c) _ rfl (by decide) (off49_eq c) (off50_eq c) (Nat.le_add_right _ _) (g_2 c 0).2
    (fun j h1 h2 => hgE m c 0 _ _ (shapeCast_self _ _) j h1 h2)) $$ KF0 C01; iintro KF0 C01
  iapply (addk c (o2 c 1) (Es 1) _ (cr 1 1) (Qs 1) (wv m 1 c) (wv m 2 c) _ rfl (by decide) (off51_eq c) (off52_eq c) (Nat.le_add_right _ _) (g_2 c 1).2
    (fun j h1 h2 => hgE m c 1 _ _ (shapeCast_self _ _) j h1 h2)) $$ KF1 C11; iintro KF1 C11
  rw [k0_part32_eq_skeleton]; unfold k0_part32_skel
  simp only [Prog.lift, Prog.bind_op, Prog.bind_ret, Prog.pure_eq_ret, semSignalWord, semWaitWord]
  iapply (addk c (o2 c 2) (Es 2) _ (cr 2 1) (Qs 2) (wv m 1 c) (wv m 2 c) _ rfl (by decide) (off53_eq c) (off54_eq c) (Nat.le_add_right _ _) (g_2 c 2).2
    (fun j h1 h2 => hgE m c 2 _ _ (shapeCast_self _ _) j h1 h2)) $$ KF2 C21; iintro KF2 C21
  -- the last halving step arrives
  iapply (wts m c 0 2 (sent2 m c 0) 9 (by decide) rfl rfl) $$ A02 HO; iintro A02 - HO
  iapply (wtr m c 0 2 (got2 m c 0) 9 (by decide) (by decide) rfl rfl) $$ A02 HO; iintro A02 ⟨C02, D02⟩ HO
  rw [k0_part33_eq_skeleton]; unfold k0_part33_skel
  simp only [Prog.lift, Prog.bind_op, Prog.bind_ret, Prog.pure_eq_ret, semSignalWord, semWaitWord]
  iapply (addk c (o2 c 0) (Es 0) _ (cr 0 2) (Es 0) (wv m 2 c) (fin m) _ rfl (by decide) (off49_eq c) rfl le_rfl le_rfl
    (fun j h1 h2 => hgF m c 0 _ _ (shapeCast_self _ _) j h1 h2)) $$ KF0 C02; iintro KF0 C02
  iapply (wts m c 1 2 (sent2 m c 1) 9 (by decide) rfl rfl) $$ A12 HO; iintro A12 - HO
  iapply (wtr m c 1 2 (got2 m c 1) 9 (by decide) (by decide) rfl rfl) $$ A12 HO; iintro A12 ⟨C12, D12⟩ HO
  iapply (addk c (o2 c 1) (Es 1) _ (cr 1 2) (Es 1) (wv m 2 c) (fin m) _ rfl (by decide) (off51_eq c) rfl le_rfl le_rfl
    (fun j h1 h2 => hgF m c 1 _ _ (shapeCast_self _ _) j h1 h2)) $$ KF1 C12; iintro KF1 C12
  iapply (wts m c 2 2 (sent2 m c 2) 9 (by decide) rfl rfl) $$ A22 HO; iintro A22 - HO
  rw [k0_part34_eq_skeleton]; unfold k0_part34_skel
  simp only [Prog.lift, Prog.bind_op, Prog.bind_ret, Prog.pure_eq_ret, semSignalWord, semWaitWord]
  iapply (wtr m c 2 2 (got2 m c 2) 9 (by decide) (by decide) rfl rfl) $$ A22 HO; iintro A22 ⟨C22, D22⟩ HO
  iapply (addk c (o2 c 2) (Es 2) _ (cr 2 2) (Es 2) (wv m 2 c) (fin m) _ rfl (by decide) (off53_eq c) rfl le_rfl le_rfl
    (fun j h1 h2 => hgF m c 2 _ _ (shapeCast_self _ _) j h1 h2)) $$ KF2 C22; iintro KF2 C22
  -- the first doubling step
  iapply (snd' m c 0 3 (by decide) 8 rfl (W c (o2 c 0) (Es 0) (fin m)) (W (pr c 0 2) (o2 c 0) (Es 0) (wv m 2 (pr c 0 2))) _ rfl rfl rfl (dev13_eq c) (off55_eq c) (off55_eq c) rfl rfl) $$ A03 KF0 D02 HO; iintro A03 HO
  rw [k0_part35_eq_skeleton]; unfold k0_part35_skel
  simp only [Prog.lift, Prog.bind_op, Prog.bind_ret, Prog.pure_eq_ret, semSignalWord, semWaitWord]
  iapply (snd' m c 1 3 (by decide) 7 rfl (W c (o2 c 1) (Es 1) (fin m)) (W (pr c 1 2) (o2 c 1) (Es 1) (wv m 2 (pr c 1 2))) _ rfl rfl rfl (dev14_eq c) (off56_eq c) (off56_eq c) rfl rfl) $$ A13 KF1 D12 HO; iintro A13 HO
  iapply (snd' m c 2 3 (by decide) 6 rfl (W c (o2 c 2) (Es 2) (fin m)) (W (pr c 2 2) (o2 c 2) (Es 2) (wv m 2 (pr c 2 2))) _ rfl rfl rfl (dev15_eq c) (off57_eq c) (off57_eq c) rfl rfl) $$ A23 KF2 D22 HO; iintro A23 HO
  rw [k0_part36_eq_skeleton]; unfold k0_part36_skel
  simp only [Prog.lift, Prog.bind_op, Prog.bind_ret, Prog.pure_eq_ret, semSignalWord, semWaitWord]
  iapply (wts m c 0 3 (sent3 m c 0) 6 (by decide) rfl rfl) $$ A03 HO; iintro A03 KF0 HO
  iapply (wtr m c 0 3 (got3 m c 0) 6 (by decide) (by decide) rfl rfl) $$ A03 HO; iintro A03 KE0 HO
  iapply (wts m c 1 3 (sent3 m c 1) 6 (by decide) rfl rfl) $$ A13 HO; iintro A13 KF1 HO
  iapply (wtr m c 1 3 (got3 m c 1) 6 (by decide) (by decide) rfl rfl) $$ A13 HO; iintro A13 KE1 HO
  iapply (wts m c 2 3 (sent3 m c 2) 6 (by decide) rfl rfl) $$ A23 HO; iintro A23 KF2 HO
  rw [k0_part37_eq_skeleton]; unfold k0_part37_skel
  simp only [Prog.lift, Prog.bind_op, Prog.bind_ret, Prog.pure_eq_ret, semSignalWord, semWaitWord]
  iapply (wtr m c 2 3 (got3 m c 2) 6 (by decide) (by decide) rfl rfl) $$ A23 HO; iintro A23 KE2 HO
  ihave KR0 := (keep_join m c 0) $$ KE0 KF0
  ihave KR1 := (keep_join m c 1) $$ KE1 KF1
  ihave KR2 := (keep_join m c 2) $$ KE2 KF2
  -- the second doubling step
  iapply (snd' m c 0 4 (by decide) 5 rfl (W c (o1 c 0) (Qs 0) (fin m)) (W (pr c 0 1) (o1 c 0) (Qs 0) (wv m 1 (pr c 0 1))) _ rfl rfl rfl (dev16_eq c) (off58_eq c) (off58_eq c) rfl rfl) $$ A04 KR0 D01 HO; iintro A04 HO
  rw [k0_part38_eq_skeleton]; unfold k0_part38_skel
  simp only [Prog.lift, Prog.bind_op, Prog.bind_ret, Prog.pure_eq_ret, semSignalWord, semWaitWord]
  iapply (snd' m c 1 4 (by decide) 4 rfl (W c (o1 c 1) (Qs 1) (fin m)) (W (pr c 1 1) (o1 c 1) (Qs 1) (wv m 1 (pr c 1 1))) _ rfl rfl rfl (dev17_eq c) (off59_eq c) (off59_eq c) rfl rfl) $$ A14 KR1 D11 HO; iintro A14 HO
  iapply (snd' m c 2 4 (by decide) 3 rfl (W c (o1 c 2) (Qs 2) (fin m)) (W (pr c 2 1) (o1 c 2) (Qs 2) (wv m 1 (pr c 2 1))) _ rfl rfl rfl (dev18_eq c) (off60_eq c) (off60_eq c) rfl rfl) $$ A24 KR2 D21 HO; iintro A24 HO
  iapply (wts m c 0 4 (sent4 m c 0) 3 (by decide) rfl rfl) $$ A04 HO; iintro A04 KR0 HO
  iapply (wtr m c 0 4 (got4 m c 0) 3 (by decide) (by decide) rfl rfl) $$ A04 HO; iintro A04 KQ0 HO
  rw [k0_part39_eq_skeleton]; unfold k0_part39_skel
  simp only [Prog.lift, Prog.bind_op, Prog.bind_ret, Prog.pure_eq_ret, semSignalWord, semWaitWord]
  iapply (wts m c 1 4 (sent4 m c 1) 3 (by decide) rfl rfl) $$ A14 HO; iintro A14 KR1 HO
  iapply (wtr m c 1 4 (got4 m c 1) 3 (by decide) (by decide) rfl rfl) $$ A14 HO; iintro A14 KQ1 HO
  iapply (wts m c 2 4 (sent4 m c 2) 3 (by decide) rfl rfl) $$ A24 HO; iintro A24 KR2 HO
  iapply (wtr m c 2 4 (got4 m c 2) 3 (by decide) (by decide) rfl rfl) $$ A24 HO; iintro A24 KQ2 HO
  ihave KO0 := (half_join m c 0) $$ KQ0 KR0
  ihave KO1 := (half_join m c 1) $$ KQ1 KR1
  ihave KO2 := (half_join m c 2) $$ KQ2 KR2
  -- the last doubling step
  rw [k0_part40_eq_skeleton]; unfold k0_part40_skel
  simp only [Prog.lift, Prog.bind_op, Prog.bind_ret, Prog.pure_eq_ret, semSignalWord, semWaitWord]
  iapply (snd' m c 0 5 (by decide) 2 rfl (W c (o0 c 0) (Hs 0) (fin m)) (W (pr c 0 0) (o0 c 0) (Hs 0) (P m (pr c 0 0))) _ rfl rfl rfl (dev19_eq c) (off61_eq c) (off61_eq c) rfl rfl) $$ A05 KO0 D00 HO; iintro A05 HO
  iapply (snd' m c 1 5 (by decide) 1 rfl (W c (o0 c 1) (Hs 1) (fin m)) (W (pr c 1 0) (o0 c 1) (Hs 1) (P m (pr c 1 0))) _ rfl rfl rfl (dev20_eq c) (off62_eq c) (off62_eq c) rfl rfl) $$ A15 KO1 D10 HO; iintro A15 HO
  iapply (snd' m c 2 5 (by decide) 0 rfl (W c (o0 c 2) (Hs 2) (fin m)) (W (pr c 2 0) (o0 c 2) (Hs 2) (P m (pr c 2 0))) _ rfl rfl rfl (dev21_eq c) (off63_eq c) (off63_eq c) rfl rfl) $$ A25 KO2 D20 HO; iintro A25 HO
  rw [k0_part41_eq_skeleton]; unfold k0_part41_skel
  simp only [Prog.lift, Prog.bind_op, Prog.bind_ret, Prog.pure_eq_ret, semSignalWord, semWaitWord]
  iapply (wts m c 0 5 (sent5 m c 0) 0 (by decide) rfl rfl) $$ A05 HO; iintro A05 KO0 HO
  iapply (wtr m c 0 5 (got5 m c 0) 0 (by decide) (by decide) rfl rfl) $$ A05 HO; iintro A05 KH0 HO
  iapply (wts m c 1 5 (sent5 m c 1) 0 (by decide) rfl rfl) $$ A15 HO; iintro A15 KO1 HO
  iapply (wtr m c 1 5 (got5 m c 1) 0 (by decide) (by decide) rfl rfl) $$ A15 HO; iintro A15 KH1 HO
  iapply (wts m c 2 5 (sent5 m c 2) 0 (by decide) rfl rfl) $$ A25 HO; iintro A25 KO2 HO
  simp only [Prog.lift, Prog.bind_op, Prog.bind_ret, Prog.pure_eq_ret]
  iapply (wtr m c 2 5 (got5 m c 2) 0 (by decide) (by decide) rfl rfl) $$ A25 HO; iintro A25 KH2 HO
  ihave HK := (whole_join m c) $$ KH0 KO0 KH1 KO1 KH2 KO2
  -- the result
  iapply (wp_load 𝒱₀ (c : Thread nD τ) none Set.univ (m := kM) (Finset.subset_univ _)) $$ HK; iintro HK; rw [read_k]
  iapply (wp_load 𝒱₀ (c : Thread nD τ) none Set.univ (m := oM) (Finset.subset_univ _)) $$ HOut; iintro HOut
  iapply (wp_store 𝒱₀ (c : Thread nD τ) none Set.univ (m := oM) (r := Rect.unit (s := S2048x1024) ![0, 0] S2048x1024.size inb_S2048x1024_S2048x1024_0_0) (Mk := Finset.univ) (Finset.subset_univ _)) $$ HOut; iintro HOut
  rw [write_out, wp_ret]; imodintro
  iapply Hk
  unfold bPost
  isplitl [HX HR HI HE HOut]
  · isplitl [HX]; · iexact HX
    isplitl [HR]; · iexact HR
    isplitl [HI]; · iexact HI
    isplitl [HE]; · iexact HE
    iexact HOut
  isplitl [HW HK C00 C01 C02 C10 C11 C12 C20 C21 C22]
  · isplitl [HW]; · iexists _; iexact HW
    isplitl [HK]; · iexists _; iexact HK
    iapply (comm_back c)
    isplitl [C00 C01 C02]
    · iapply (cx_intro c 0) $$ C00 C01 C02
    isplitl [C10 C11 C12]
    · iapply (cx_intro c 1) $$ C10 C11 C12
    iapply (cx_intro c 2) $$ C20 C21 C22
  isplitl [A00 A01 A02 A03 A04 A05 A10 A11 A12 A13 A14 A15 A20 A21 A22 A23 A24 A25]
  · isplitl [A00 A01 A02 A03 A04 A05]; · iapply (stZs_intro c 0) $$ A00 A01 A02 A03 A04 A05
    isplitl [A10 A11 A12 A13 A14 A15]; · iapply (stZs_intro c 1) $$ A10 A11 A12 A13 A14 A15
    iapply (stZs_intro c 2) $$ A20 A21 A22 A23 A24 A25
  isplitl [HzB]; · iexact HzB
  iexact HO

end Cert.KernelIdeal.Run

end
-- ==== Proof.KernelIdeal.Obl.lean ====
/- The pipeline's data for the kernel's one grid point, and the body obligation. -/
module

public import proofs.«01_k».proof.Proof.KernelIdeal.Body

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-- The memory at the start: counters at zero. -/
def s₀ : MemSt nD τ sig (Elt F) := ⟨m, fun _ => 0, ρ⟩

/-- The three scratch buffers, at some contents. -/
def scr (c : Dev nD) : sProp 𝕄 := iprop((∃ g, pts (F := F) c cc0_scratch0 g) ∗ (∃ g, pts (F := F) c cc0_scratch1 g) ∗ (∃ g, pts (F := F) c cc0_scratch2 g))

/-- What the exchange hands device `c` at the start. -/
def start (c : Dev nD) : sProp 𝕄 :=
  iprop((stAs m c 0 ∗ stAs m c 1 ∗ stAs m c 2) ∗ (stT m c 0 ∗ stT m c 1 ∗ stT m c 2 ∗ stW m c) ∗ levAts L lv)
def Φ₀ (c : Dev nD) : sProp 𝕄 := iprop(start m c ∗ scr (F := F) c)
/-- After the point: the scratch buffers and every counter at zero. -/
def Φ₁ (c : Dev nD) : sProp 𝕄 := iprop(scr (F := F) c ∗ (stZs (F := F) c 0 ∗ stZs (F := F) c 1 ∗ stZs (F := F) c 2) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => rS m c
    | ⟨2, _⟩ => iS m c
    | ⟨3, _⟩ => eS m c
    | ⟨4, _⟩ => outS m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem fetch_0 : (cfg0.win (0 : Fin 5)).fetch t0_0 = true := rfl
theorem fetch_1 : (cfg0.win (1 : Fin 5)).fetch t0_0 = true := rfl
theorem fetch_2 : (cfg0.win (2 : Fin 5)).fetch t0_0 = true := rfl
theorem fetch_3 : (cfg0.win (3 : Fin 5)).fetch t0_0 = true := rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline gives the body. -/
def pipePre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
/-- What the pipeline takes back. -/
def pipePost (c : Dev nD) : sProp 𝕄 :=
  iprop(Φ₁ (F := F) c ∗ (dats m ρ 0 c).owesAt () t0_0.succ ∗ stg c cc0_stg0_0 (xS m c) ∗ stg c cc0_stg1_0 (rS m c) ∗ stg c cc0_stg2_0 (iS m c)
    ∗ stg c cc0_stg3_0 (eS m c) ∗ stg c cc0_stg4_0 (outS m))

theorem stg_in {c : Dev nD} {b : Ref sig .tc} {D : Type} {X : D → b.ty.Contents (Elt F)} {Y : b.ty.Contents (Elt F)} (h : ∀ d, X d = Y) :
    (iprop(∃ d, stg c b (X d)) : sProp 𝕄) ⊢ pts c b Y := by
  iintro ⟨%d, %g, %hg, H⟩
  rw [h d] at hg; subst hg; iexact H
theorem stg_out {c : Dev nD} {b : Ref sig .tc} {Y : b.ty.Contents (Elt F)} : (pts c b Y : sProp 𝕄) ⊢ stg c b Y := by
  iintro H; iexists _; isplitr; · (ipureintro; rfl)
  iexact H

theorem pre_in (c : Dev nD) : pipePre m ρ c ⊢ bPre m c := by
  unfold pipePre Φ₀ start scr bPre Dat.owesAt Pipeline.owesWithin
  rw [show (dats m ρ 0 c).owed t0_0.castSucc = O₀ c from rfl]
  iintro ⟨⟨⟨HA, HT, #Hlev⟩, Hscr⟩, ⟨%Wt, %hW, HO⟩, H0, H1, H2, H3, H4⟩
  ihave H0' := (stg_in (Y := xS m c) (fun d => by unfold Dat.before; rw [if_pos fetch_0]; rfl)) $$ H0
  ihave H1' := (stg_in (Y := rS m c) (fun d => by unfold Dat.before; rw [if_pos fetch_1]; rfl)) $$ H1
  ihave H2' := (stg_in (Y := iS m c) (fun d => by unfold Dat.before; rw [if_pos fetch_2]; rfl)) $$ H2
  ihave H3' := (stg_in (Y := eS m c) (fun d => by unfold Dat.before; rw [if_pos fetch_3]; rfl)) $$ H3
  icases H4 with ⟨%d4, %g4, %hg4, H4⟩
  isplitl [H0' H1' H2' H3' H4]
  · isplitl [H0']; · iexact H0'
    isplitl [H1']; · iexact H1'
    isplitl [H2']; · iexact H2'
    isplitl [H3']; · iexact H3'
    iexists g4; iexact H4
  isplitl [Hscr]; · iexact Hscr
  isplitl [HA]; · iexact HA
  isplitl [HT]; · iexact HT
  isplitr; · iexact Hlev
  iexists Wt; iexact HO

theorem post_out (c : Dev nD) : bPost m c ⊢ pipePost m ρ c := by
  unfold pipePost Φ₁ scr bPost OL OW Dat.owesAt Pipeline.owesWithin
  rw [show (dats m ρ 0 c).owed t0_0.succ = 0 from rfl]
  iintro ⟨⟨H0, H1, H2, H3, H4⟩, Hscr, HZ, HB, ⟨-, ⟨%Wt, HO⟩⟩⟩
  isplitl [Hscr HZ HB]
  · isplitl [Hscr]; · iexact Hscr
    isplitl [HZ] <;> iassumption
  isplitl [HO]
  · iexists Wt; isplitr; · ipureintro; exact fun _ _ => Or.inl trivial
    iexact HO
  isplitl [H0]; · iapply stg_out $$ H0
  isplitl [H1]; · iapply stg_out $$ H1
  isplitl [H2]; · iapply stg_out $$ H2
  isplitl [H3]; · iapply stg_out $$ H3
  iapply stg_out $$ H4

/-- The body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show pipePre m ρ c ⊢ wp frame (wpE (defs₀ (F := F)) 𝒱₀ c none) Set.univ
    (cc0_body xM (Memref.isWhole_whole _) gM (Memref.isWhole_whole _) iM (Memref.isWhole_whole _) eM (Memref.isWhole_whole _) oM (Memref.isWhole_whole _)
      wM (Memref.isWhole_whole _) kM (Memref.isWhole_whole _) cM (Memref.isWhole_whole _) cc0_scratch3 cc0_scratch4) (fun _ => pipePost m ρ c)
  iintro H
  iapply (sound_body m c fun _ => pipePost m ρ c)
  isplitl [H]
  · iapply (pre_in m ρ c) $$ H
  · iintro H; iapply (post_out m ρ c) $$ H

end Cert.KernelIdeal.Run

end
-- ==== Proof.KernelIdeal.Run.lean ====
/- The launch: the exchange's ghost state and credits dealt out, and the run of the whole program. -/
module

public import Idealize.ShloMosaic.Lib.Pipeline.CollectiveSegs
public import proofs.«01_k».proof.Proof.KernelIdeal.Obl

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-- A part and a step. -/
abbrev PS : Type := Fin 3 × Fin 6
/-- A device's cells: its barrier cell, its send cells, its receive cells. -/
abbrev KI : Type := Unit ⊕ (PS ⊕ PS)

def osem : PS ⊕ PS → SemLoc sig
  | .inl q => .dma (sD q.1 q.2)
  | .inr q => .dma (rD q.1 q.2)
def csem : KI → SemLoc sig
  | .inl _ => .reg barS
  | .inr q => osem q
abbrev kcell (ck : Dev nD × KI) : GSem nD τ sig := ((ck.1 : Thread nD τ), csem ck.2)

theorem sD_inj {p p' : Fin 3} {s s' : Fin 6} (h : sD p s = sD p' s') : p = p' ∧ s = s' := by
  have h1 : 5 + (6 * p.val + s.val) = 5 + (6 * p'.val + s'.val) := congrArg (fun x : DmaSem sig => x.val) h
  exact ⟨Fin.ext (by omega), Fin.ext (by omega)⟩
theorem rD_inj {p p' : Fin 3} {s s' : Fin 6} (h : rD p s = rD p' s') : p = p' ∧ s = s' := by
  have h1 : 23 + (6 * p.val + s.val) = 23 + (6 * p'.val + s'.val) := congrArg (fun x : DmaSem sig => x.val) h
  exact ⟨Fin.ext (by omega), Fin.ext (by omega)⟩
theorem sD_ne_rD (p p' : Fin 3) (s s' : Fin 6) : sD p s ≠ rD p' s' := fun h => by
  have h1 : 5 + (6 * p.val + s.val) = 23 + (6 * p'.val + s'.val) := congrArg (fun x : DmaSem sig => x.val) h
  have := p.isLt; have := s.isLt; omega

theorem osem_inj : Function.Injective osem := by
  rintro (⟨p, s⟩ | ⟨p, s⟩) (⟨p', s'⟩ | ⟨p', s'⟩) h
  · obtain ⟨rfl, rfl⟩ := sD_inj (SemLoc.dma.inj h); rfl
  · exact absurd (SemLoc.dma.inj h) (sD_ne_rD _ _ _ _)
  · exact absurd (SemLoc.dma.inj h).symm (sD_ne_rD _ _ _ _)
  · obtain ⟨rfl, rfl⟩ := rD_inj (SemLoc.dma.inj h); rfl
theorem osem_ne_bar (q : PS ⊕ PS) : osem q ≠ .reg barS := by rcases q with q | q <;> exact fun h => by cases h
theorem csem_inj : Function.Injective csem := by
  rintro (⟨⟩ | q) (⟨⟩ | q') h
  · rfl
  · exact absurd h.symm (osem_ne_bar q')
  · exact absurd h (osem_ne_bar q)
  · exact congrArg Sum.inr (osem_inj h)
theorem kcell_injective : Function.Injective (kcell : Dev nD × KI → GSem nD τ sig) := by
  rintro ⟨c, k⟩ ⟨c', k'⟩ h
  have h1 : c = c' := by have := congrArg (fun g : GSem nD τ sig => g.1.1) h; exact this
  subst h1
  have h2 : k = k' := csem_inj (congrArg Prod.snd h)
  subst h2; rfl
def allCells : Finset (GSem nD τ sig) := Finset.univ.map ⟨kcell, kcell_injective⟩

theorem ownSemFacts : Pipeline.OwnSemFacts cfg0.spec osem where
  isScoped := by decide
  inj := osem_inj
  disj := by decide

theorem share_eq (c : Dev nD) (w : Fin cfg0.W) : (dats m ρ 0 c).share w = fullShare := by unfold Dat.share; split <;> rfl

/-- A device's own cells' duties: three on the barrier cell, one on each other cell. -/
abbrev TI : Type := Fin 3 ⊕ (PS ⊕ PS)
def tokOf (cj : Dev nD × TI) : GSem nD τ sig × ℕ × Fin 3 :=
  match cj.2 with
  | .inl k => (barCell cj.1, 0, k)
  | .inr q => (((cj.1 : Thread nD τ), osem q), 0, 0)
theorem tokOf_dev (cj : Dev nD × TI) : (tokOf cj).1.1.1 = cj.1 := by
  rcases cj with ⟨c, k | q⟩ <;> rfl
theorem tokOf_injective : Function.Injective (tokOf : Dev nD × TI → GSem nD τ sig × ℕ × Fin 3) := by
  intro cj cj' h
  have h1 : cj.1 = cj'.1 := by rw [← tokOf_dev cj, ← tokOf_dev cj', h]
  obtain ⟨c, j⟩ := cj; obtain ⟨c', j'⟩ := cj'
  dsimp only at h1; subst h1
  have h2 : (tokOf (c, j)).1.2 = (tokOf (c, j')).1.2 := by rw [h]
  have h3 : (tokOf (c, j)).2.2 = (tokOf (c, j')).2.2 := by rw [h]
  rcases j with k | q <;> rcases j' with k' | q'
  · rw [show k = k' from h3]
  · exact absurd (show osem q' = .reg barS from h2.symm) (osem_ne_bar q')
  · exact absurd (show osem q = .reg barS from h2) (osem_ne_bar q)
  · rw [osem_inj h2]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun k : Fin 3 => dutyTok ER (barCell c) 0 k)
    ∗ (bigSep Finset.univ fun q : PS => dutyTok ER (sendCell c q.1 q.2) 0 0) ∗ (bigSep Finset.univ fun q : PS => dutyTok ER (recvCell c q.1 q.2) 0 0))

def G (c : Dev nD) : sProp 𝕄 :=
  iprop((bigSep Finset.univ fun k : KI => roundState ER (Rd m) (kcell (c, k)) 0)
    ∗ (bigSep Finset.univ fun k : KI => iprop(atPos ER (kcell (c, k)) 0 ∅ 0 ∗ reached ER (kcell (c, k)) 0)) ∗ toks (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [unscopedSems0_eq, bigSep_univ_sum, bigSep_univ_of_subsingleton ()]
  unfold Pipeline.ownSems0
  exact (sep_comm (PROP := sProp 𝕄)).1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : KI => semVal (kcell (c, k)) 0) ∗ bigSep Finset.univ fun k : KI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant under the names `K`, and every cell at round 0. -/
def records (K : Dev nD × KI → ℕ) : sProp 𝕄 :=
  iprop((bigSep Finset.univ fun ck : Dev nD × KI => cellInv ER (Rd m) (K ck) (kcell ck))
    ∗ bigSep Finset.univ fun ck : Dev nD × KI => reached ER (kcell ck) 0)

instance records_persistent (K : Dev nD × KI → ℕ) : BI.Persistent (records m K) := by unfold records; infer_instance

theorem inv_at (K : Dev nD × KI → ℕ) (ck : Dev nD × KI) : records m K ⊢ cellInv ER (Rd m) (K ck) (kcell ck) := by
  have h : (bigSep Finset.univ fun ck : Dev nD × KI => (cellInv ER (Rd m) (K ck) (kcell ck) : sProp 𝕄)) ⊢ cellInv ER (Rd m) (K ck) (kcell ck) := bigSep_elim (Finset.mem_univ ck)
  unfold records; iintro ⟨#HI, -⟩
  iapply h; iexact HI
theorem reached_at (K : Dev nD × KI → ℕ) (ck : Dev nD × KI) : records m K ⊢ reached ER (kcell ck) 0 := by
  have h : (bigSep Finset.univ fun ck : Dev nD × KI => (reached ER (kcell ck) 0 : sProp 𝕄)) ⊢ reached ER (kcell ck) 0 := bigSep_elim (Finset.mem_univ ck)
  unfold records; iintro ⟨-, #HR⟩
  iapply h; iexact HR

/-- A step's state without its credit. -/
def stA' (c : Dev nD) (p : Fin 3) (s : Fin 6) : sProp 𝕄 :=
  iprop(∃ κ₁ κ₂ κ₃ : ℕ, cellInv ER (Rd m) κ₁ (sendCell c p s) ∗ cellInv ER (Rd m) κ₂ (recvCell (pr c p s) p s) ∗ cellInv ER (Rd m) κ₃ (recvCell c p s)
    ∗ dutyTok ER (sendCell c p s) 0 0 ∗ reached ER (sendCell c p s) 0 ∗ dutyTok ER (recvCell (pr c p s) p s) 0 0 ∗ reached ER (recvCell (pr c p s) p s) 0
    ∗ atPos ER (sendCell c p s) 0 ∅ 0 ∗ atPos ER (recvCell c p s) 0 ∅ 0)
/-- The barrier wait's state without its credit. -/
def stW' (c : Dev nD) : sProp 𝕄 := iprop(∃ κ : ℕ, cellInv ER (Rd m) κ (barCell c) ∗ atPos ER (barCell c) 0 ∅ 0)

/-- What the exchange hands device `c`, credits aside. -/
def G' (c : Dev nD) : sProp 𝕄 :=
  iprop((bigSep Finset.univ fun q : PS => stA' m c q.1 q.2) ∗ (bigSep Finset.univ fun k : Fin 3 => stT m c k) ∗ stW' m c)

/-- A step's tokens and positions. -/
def linA (c : Dev nD) (q : PS) : sProp 𝕄 :=
  iprop(dutyTok ER (sendCell c q.1 q.2) 0 0 ∗ dutyTok ER (recvCell (pr c q.1 q.2) q.1 q.2) 0 0 ∗ atPos ER (sendCell c q.1 q.2) 0 ∅ 0 ∗ atPos ER (recvCell c q.1 q.2) 0 ∅ 0)
def linear (c : Dev nD) : sProp 𝕄 :=
  iprop((bigSep Finset.univ fun q : PS => linA (F := F) c q) ∗ (bigSep Finset.univ fun k : Fin 3 => dutyTok ER (barCell (pa c k)) 0 k) ∗ atPos ER (barCell c) 0 ∅ 0)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem stA'_intro (K : Dev nD × KI → ℕ) (c : Dev nD) (q : PS) : iprop(records m K ∗ linA (F := F) c q) ⊢ stA' m c q.1 q.2 := by
  unfold linA stA'
  iintro ⟨#HR, HtS, HtV, HaS, HaV⟩
  iexists (K (c, .inr (.inl q))); iexists (K (pr c q.1 q.2, .inr (.inr q))); iexists (K (c, .inr (.inr q)))
  isplitr; · iapply (inv_at m K (c, .inr (.inl q))); iexact HR
  isplitr; · iapply (inv_at m K (pr c q.1 q.2, .inr (.inr q))); iexact HR
  isplitr; · iapply (inv_at m K (c, .inr (.inr q))); iexact HR
  isplitl [HtS]; · iexact HtS
  isplitr; · iapply (reached_at m K (c, .inr (.inl q))); iexact HR
  isplitl [HtV]; · iexact HtV
  isplitr; · iapply (reached_at m K (pr c q.1 q.2, .inr (.inr q))); iexact HR
  isplitl [HaS] <;> iassumption

theorem stT_intro (K : Dev nD × KI → ℕ) (c : Dev nD) (k : Fin 3) : iprop(records m K ∗ dutyTok ER (barCell (pa c k)) 0 k) ⊢ stT m c k := by
  unfold stT
  iintro ⟨#HR, Ht⟩
  iexists (K (pa c k, .inl ()))
  isplitr; · iapply (inv_at m K (pa c k, .inl ())); iexact HR
  isplitl [Ht]; · iexact Ht
  iapply (reached_at m K (pa c k, .inl ())); iexact HR

theorem ghost_intro (K : Dev nD × KI → ℕ) (c : Dev nD) : iprop(records m K ∗ linear (F := F) c) ⊢ G' m c := by
  unfold linear G' stW'
  iintro ⟨#HR, HA, HT, HW⟩
  isplitl [HA]
  · iapply (bigSep_with_persistent (R := records m K) fun q _ => stA'_intro m K c q)
    isplitr; · iexact HR
    iexact HA
  isplitl [HT]
  · iapply (bigSep_with_persistent (R := records m K) fun k _ => stT_intro m K c k)
    isplitr; · iexact HR
    iexact HT
  iexists (K (c, .inl ()))
  isplitr; · iapply (inv_at m K (c, .inl ())); iexact HR
  iexact HW

/-- A device and a mask number to the partner across it; -/
def paEquiv : Dev nD × Fin 3 ≃ Dev nD × Fin 3 :=
  Function.Involutive.toPerm (fun ck => (pa ck.1 ck.2, ck.2)) fun ck => Prod.ext (pa_pa ck.1 ck.2) rfl
/-- a device and a step to the partner of that step. -/
def prEquiv : Dev nD × PS ≃ Dev nD × PS :=
  Function.Involutive.toPerm (fun cq => (pr cq.1 cq.2.1 cq.2.2, cq.2)) fun cq => Prod.ext (pr_pr cq.1 cq.2.1 cq.2.2) rfl

theorem bar_around : (bigSep Finset.univ fun c : Dev nD => bigSep Finset.univ fun k : Fin 3 => (dutyTok ER (barCell c) 0 k : sProp 𝕄))
    = bigSep Finset.univ fun c : Dev nD => bigSep Finset.univ fun k : Fin 3 => dutyTok ER (barCell (pa c k)) 0 k := by
  rw [← bigSep_univ_prod (fun ck : Dev nD × Fin 3 => (dutyTok ER (barCell ck.1) 0 ck.2 : sProp 𝕄)), bigSep_univ_equiv paEquiv, bigSep_univ_prod]
  rfl
theorem recv_around : (bigSep Finset.univ fun c : Dev nD => bigSep Finset.univ fun q : PS => (dutyTok ER (recvCell c q.1 q.2) 0 (0 : Fin 3) : sProp 𝕄))
    = bigSep Finset.univ fun c : Dev nD => bigSep Finset.univ fun q : PS => dutyTok ER (recvCell (pr c q.1 q.2) q.1 q.2) 0 0 := by
  rw [← bigSep_univ_prod (fun cq : Dev nD × PS => (dutyTok ER (recvCell cq.1 cq.2.1 cq.2.2) 0 (0 : Fin 3) : sProp 𝕄)), bigSep_univ_equiv prEquiv, bigSep_univ_prod]
  rfl

theorem linear_intro : iprop((bigSep Finset.univ fun c : Dev nD => bigSep Finset.univ fun k : KI => (atPos ER (kcell (c, k)) 0 ∅ 0 : sProp 𝕄))
      ∗ bigSep Finset.univ fun c : Dev nD => toks (F := F) c) ⊢ bigSep Finset.univ fun c : Dev nD => linear c := by
  unfold linear linA toks
  simp only [bigSep_sep']
  rw [bar_around, recv_around]
  rw [bigSep_congr (s := Finset.univ) (fun (c : Dev nD) _ => (bigSep_univ_sum (fun k : KI => (atPos ER (kcell (c, k)) 0 ∅ 0 : sProp 𝕄))).trans
    (show _ = iprop(atPos ER (barCell c) 0 ∅ 0 ∗ (bigSep Finset.univ fun q : PS => atPos ER (sendCell c q.1 q.2) 0 ∅ 0) ∗ (bigSep Finset.univ fun q : PS => atPos ER (recvCell c q.1 q.2) 0 ∅ 0)) from
      congrArg₂ (fun A B : sProp 𝕄 => iprop(A ∗ B)) (bigSep_univ_of_subsingleton ()) (bigSep_univ_sum _)))]
  rw [bigSep_sep', bigSep_sep']
  iintro ⟨⟨HB, HS, HV⟩, HtB, HtS, HtV⟩
  isplitl [HtS HtV HS HV]
  · isplitl [HtS]; · iexact HtS
    isplitl [HtV]; · iexact HtV
    isplitl [HS]; · iexact HS
    iexact HV
  isplitl [HtB]; · iexact HtB
  iexact HB

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × KI => iprop(∃ κ : ℕ, cellInv ER (Rd m) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (Rd m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (linear_intro (F := F))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem recv_ne_bar (p : Fin 3) (s : Fin 6) {c d : Dev nD} : recvCell c p s ≠ barCell d := fun h => by have h' := congrArg Prod.snd h; cases h'
theorem recv_ne_bar' (p : Fin 3) (s : Fin 6) : (SemLoc.dma (rD p s) : SemLoc sig) ≠ .reg barS := fun h => by cases h
theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {p p' : Fin 3} {s s' : Fin 6} : Iff (recvCell a p s = recvCell b p' s') (a = b ∧ p = p' ∧ s = s') :=
  ⟨fun h => ⟨Fin.ext (congrArg (fun g : GSem nD τ sig => g.1.1.val) h), rD_inj (SemLoc.dma.inj (congrArg Prod.snd h))⟩, fun ⟨h1, h2, h3⟩ => by subst h1 h2 h3; rfl⟩

theorem ps_eq (j : ℕ) (hj : j < 18) (p : Fin 3) (s : Fin 6) : ps j = (p, s) ↔ j = 3 * s.val + p.val := by
  have hp := p.isLt
  constructor
  · intro h
    have h1 : j % 3 = p.val := congrArg (fun x : Fin 3 × Fin 6 => x.1.val) h
    have h2 : j / 3 % 6 = s.val := congrArg (fun x : Fin 3 × Fin 6 => x.2.val) h
    omega
  · rintro rfl
    have hs := s.isLt
    exact Prod.ext (Fin.ext (by show (3 * s.val + p.val) % 3 = p.val; omega)) (Fin.ext (by show (3 * s.val + p.val) / 3 % 6 = s.val; omega))

theorem Ow_recv (d c : Dev nD) (p : Fin 3) (s : Fin 6) : ∀ n : ℕ, n ≤ 18 →
    Ow d n (recvCell c p s) () = if d = pr c p s ∧ 18 - n ≤ 3 * s.val + p.val then amt p s else 0
  | 0, _ => by
    have hp := p.isLt; have hs := s.isLt
    rw [if_neg (fun h => by omega)]; rfl
  | n + 1, hn => by
    have hp := p.isLt; have hs := s.isLt
    rw [Ow, Pi.add_apply, Finsupp.add_apply, Ow_recv d c p s n (by omega)]
    unfold tgt
    rw [tallyAt_apply]
    by_cases hj : ps (17 - n) = (p, s)
    · rw [hj]; dsimp only
      rw [ps_eq _ (by omega)] at hj
      rw [if_neg (show ¬ (d = pr c p s ∧ 18 - n ≤ 3 * s.val + p.val) from fun h => by omega), Nat.zero_add]
      by_cases hd : d = pr c p s
      · subst hd; rw [pr_pr, if_pos ⟨rfl, rfl⟩, if_pos ⟨rfl, by omega⟩]
      · rw [if_neg (show ¬ (recvCell c p s = recvCell (pr d p s) p s ∧ () = ()) from fun h => hd (by rw [(recv_eq_iff.mp h.1).1, pr_pr])),
          if_neg (show ¬ (d = pr c p s ∧ _) from fun h => hd h.1)]
    · have h2 : ¬ (recvCell c p s = recvCell (pr d (ps (17 - n)).1 (ps (17 - n)).2) (ps (17 - n)).1 (ps (17 - n)).2 ∧ () = ()) :=
        fun h => hj (Prod.ext (recv_eq_iff.mp h.1).2.1.symm (recv_eq_iff.mp h.1).2.2.symm)
      rw [if_neg h2, Nat.add_zero]
      rw [ps_eq _ (by omega)] at hj
      refine if_congr (and_congr_right fun _ => ?_) rfl rfl
      omega

theorem owed_recv (d c : Dev nD) (p : Fin 3) (s : Fin 6) : O₀ d (recvCell c p s) () = if d = pr c p s then amt p s else 0 := by
  unfold O₀ O₂ O₁
  rw [Pi.add_apply, Finsupp.add_apply, Pi.add_apply, Finsupp.add_apply, Pi.add_apply, Finsupp.add_apply,
    tallyAt_ne_cell (recv_ne_bar p s), tallyAt_ne_cell (recv_ne_bar p s), tallyAt_ne_cell (recv_ne_bar p s),
    Finsupp.zero_apply, Nat.add_zero, Nat.add_zero, Nat.add_zero, Ow_recv d c p s 18 le_rfl]
  exact if_congr (and_iff_left (by omega)) rfl rfl

theorem owed_bar (d c : Dev nD) : O₀ d (barCell c) () = ((if d = pa c 2 then 1 else 0) + (if d = pa c 1 then 1 else 0)) + (if d = pa c 0 then 1 else 0) := by
  have h0 : Ow d 18 (barCell c) () = 0 := by
    by_contra h
    obtain ⟨p, s, hg, -⟩ := Ow_pos le_rfl (Nat.pos_of_ne_zero h)
    exact recv_ne_bar p s hg.symm
  have hk (k : Fin 3) : (tallyAt (barCell (pa d k)) () 1 : CellTallies nD τ sig Unit) (barCell c) () = if d = pa c k then 1 else 0 := by
    rw [tallyAt_apply]
    refine if_congr ⟨fun h => ?_, fun h => ?_⟩ rfl rfl
    · rw [bar_eq_iff.mp h.1, pa_pa]
    · rw [h, pa_pa]; exact ⟨rfl, rfl⟩
  unfold O₀ O₂ O₁
  rw [Pi.add_apply, Finsupp.add_apply, Pi.add_apply, Finsupp.add_apply, Pi.add_apply, Finsupp.add_apply, h0, Nat.zero_add, hk, hk, hk]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_recv (c : Dev nD) (p : Fin 3) (s : Fin 6) :
    tallyOn (recvCell c p s) (launchCredit (Pipeline.owing O₀) 0 (recvCell c p s)) = (tallyAt (recvCell c p s) () (amt p s) : CellTallies nD τ sig Unit) := by
  unfold tallyAt; refine congrArg _ (Finsupp.ext fun u => ?_); cases u
  rw [Pipeline.launchCredit_owing, Finsupp.single_eq_same, Finset.sum_congr rfl fun d _ => owed_recv d c p s, Finset.sum_ite_eq' Finset.univ (pr c p s) fun _ => amt p s,
    if_pos (Finset.mem_univ _)]

theorem rsem_inj : Function.Injective fun q : PS => (SemLoc.dma (rD q.1 q.2) : SemLoc sig) :=
  fun q q' h => Sum.inr.inj (osem_inj (show osem (.inr q) = osem (.inr q') from h))

theorem creds (c : Dev nD) :
    (Pipeline.launchCred O₀ c : sProp 𝕄) ⊢ iprop(cred (tallyAt (barCell c) () 3) ∗ bigSep Finset.univ fun q : PS => cred (tallyAt (recvCell c q.1 q.2) () (amt q.1 q.2))) := by
  unfold Pipeline.launchCred
  rw [bigSep_univ_at _ (SemLoc.reg barS), launch_bar]
  refine sep_mono_right ?_
  rw [show (bigSep Finset.univ fun q : PS => (cred (tallyAt (recvCell c q.1 q.2) () (amt q.1 q.2)) : sProp 𝕄))
      = bigSep (Finset.univ.map ⟨_, rsem_inj⟩) fun sm => cred (tallyOn ((c : Thread nD τ), sm) (launchCredit (Pipeline.owing O₀) 0 ((c : Thread nD τ), sm))) from by
    rw [bigSep_map]
    exact bigSep_congr fun q _ => congrArg cred (launch_recv c q.1 q.2).symm]
  refine bigSep_subset ?_
  intro sm h
  obtain ⟨q, -, rfl⟩ := Finset.mem_map.mp h
  exact Finset.mem_erase.mpr ⟨recv_ne_bar' _ _, Finset.mem_univ _⟩

/-! ### The theorem's side conditions -/

theorem stA_intro (c : Dev nD) (p : Fin 3) (s : Fin 6) : iprop(stA' m c p s ∗ cred (tallyAt (recvCell c p s) () (amt p s))) ⊢ stA m c p s := by
  unfold stA' stA
  iintro ⟨⟨%κ₁, %κ₂, %κ₃, #H1, #H2, #H3, H4, #H5, H6, #H7, H8, H9⟩, HC⟩
  iexists κ₁; iexists κ₂; iexists κ₃
  isplitr; · iexact H1
  isplitr; · iexact H2
  isplitr; · iexact H3
  isplitl [H4]; · iexact H4
  isplitr; · iexact H5
  isplitl [H6]; · iexact H6
  isplitr; · iexact H7
  isplitl [H8]; · iexact H8
  isplitl [H9] <;> iassumption

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem stAs_intro (c : Dev nD) : iprop((bigSep Finset.univ fun q : PS => stA' m c q.1 q.2) ∗ bigSep Finset.univ fun q : PS => cred (tallyAt (recvCell c q.1 q.2) () (amt q.1 q.2)))
    ⊢ (iprop(stAs m c 0 ∗ stAs m c 1 ∗ stAs m c 2) : sProp 𝕄) := by
  rw [← bigSep_sep', show (iprop(stAs m c 0 ∗ stAs m c 1 ∗ stAs m c 2) : sProp 𝕄) = bigSep Finset.univ fun q : PS => stA m c q.1 q.2 from by
    rw [bigSep_univ_prod, bigSep_fin3, bigSep_fin6, bigSep_fin6, bigSep_fin6]; rfl]
  exact bigSep_mono fun q _ => stA_intro m c q.1 q.2

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, HA, HT, HW⟩
  ihave Hc := (creds (F := F) c) $$ Hcr
  icases Hc with ⟨HB, HV⟩
  imodintro
  unfold start
  isplitl
  · isplitl [HA HV]
    · iapply (stAs_intro m c)
      isplitl [HA] <;> iassumption
    isplitl [HT HW HB]
    · ihave HT := (Entails.of_eq (bigSep_fin3 (fun k : Fin 3 => stT m c k))) $$ HT
      icases HT with ⟨H0, H1, H2⟩
      isplitl [H0]; · iexact H0
      isplitl [H1]; · iexact H1
      isplitl [H2]; · iexact H2
      unfold stW' stW
      icases HW with ⟨%κ, #HI, Hat⟩
      iexists κ
      isplitr; · iexact HI
      isplitl [HB] <;> iassumption
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem stZs_out (c : Dev nD) : iprop(stZs (F := F) c 0 ∗ stZs (F := F) c 1 ∗ stZs (F := F) c 2)
    ⊢ (Pipeline.ownSems0 (Ix := Unit) (Name := ℕ) (U := UU) (Lvl := ℕ) (Val := Elt F) (τ := τ) osem c : sProp 𝕄) := by
  refine Entails.of_eq (Eq.symm ?_)
  unfold Pipeline.ownSems0
  rw [bigSep_univ_sum]
  refine (bigSep_sep' Finset.univ _ _).symm.trans ?_
  rw [bigSep_univ_prod, bigSep_fin3, bigSep_fin6, bigSep_fin6, bigSep_fin6]
  rfl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ scr
  iintro ⟨Hr, HZ, HB⟩
  isplitl [HB]; · iexact HB
  isplitl [HZ]; · iapply (stZs_out c) $$ HZ
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- A window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution of the program terminates, and in every final state
    each window's array holds `finalA` and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run

end
-- ==== Proof.KernelIdeal.Final.lean ====
/- The run read at the arguments and at the result. -/
module

public import proofs.«01_k».proof.Proof.KernelIdeal.Run

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-- The result array ends holding the sum the kernel computed. -/
theorem finalA_out (c : Dev nD) : finalA m ρ c (4 : Fin 5) = outS m := by
  have h : (win0_4.blk (0 : Fin 1)).view.read (Elt F) (finalA m ρ c (4 : Fin 5)) = outS m := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  have hz : (fun a => (win0_4.index (0 : Fin 1)) a * main_v1.ty.shape.size a) = fun _ => 0 := funext fun a => by fin_cases a <;> decide
  exact (Memref.read_access_unit_zero (Elt F) main_v1 hz (fun a => by fin_cases a <;> decide) _).symm.trans h

/-- After every run: the four arguments as they began, the result the kernel's sum, the counters at zero. -/
theorem run_final : θ_run defs (onTc (τ := τ) (main (F := F))) (s₀ m ρ)
    (fun r => (∀ c : Dev nD, r.2.mem ((c : Thread nD τ).loc main_v1) = outS m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) := by
  refine (θ_run defs _ _).mono (fun r h => ⟨fun c => ⟨?_, ?_, ?_, ?_, ?_⟩, h.2⟩) (run_main m ρ)
  · exact (h.1 c (4 : Fin 5)).trans (finalA_out m ρ c)
  · exact (h.1 c (0 : Fin 5)).trans ((dats m ρ 0 c).arrAt_in (0 : Fin 5) rfl _)
  · exact (h.1 c (1 : Fin 5)).trans ((dats m ρ 0 c).arrAt_in (1 : Fin 5) rfl _)
  · exact (h.1 c (2 : Fin 5)).trans ((dats m ρ 0 c).arrAt_in (2 : Fin 5) rfl _)
  · exact (h.1 c (3 : Fin 5)).trans ((dats m ρ 0 c).arrAt_in (3 : Fin 5) rfl _)

end Cert.KernelIdeal.Run
-- ==== Proof.KernelIdeal.Weights.lean ====
/- The weights of a device's own experts at the reals: at the device that holds a row's routed expert they are that
   expert's share, elsewhere zero. -/
module

public import proofs.«01_k».proof.Proof.KernelIdeal.Contents
public import proofs.«01_k».proof.Proof.Spec
public import Idealize.ShloMosaic.Lib.Pointwise

@[expose] public section

set_option maxRecDepth 16384

noncomputable section

namespace Cert.KernelIdeal.Run

open Idealize.ShloMosaic Idealize.ShloMosaic.TcCoe Cert.KernelIdeal.Gen Cert.Moe

theorem pair_eq_ix2 {a b : ℕ} (i : Fin a) (j : Fin b) : Shape.pair (d := ![a, b]) i j = ix2 i j := by
  funext x; match x with | ⟨0, _⟩ => rfl | ⟨1, _⟩ => rfl

variable (X : FVec Ideal S2048x512 .f32) (R : FVec Ideal S512x64 .f32)

/-- The kernel's softmax. -/
theorem pay2_apply (r : Fin 2048) (n : Fin 64) : k0_pay2 (F := Ideal) X R (ix2 r n) = prob X R r n := by
  unfold k0_pay2
  pointwise
  rw [negInf]
  rfl

/-- Experts' numbers as words are apart. -/
theorem word_eq : ∀ n k : Fin 64, (BitVec.ofNat 32 n.val = BitVec.ofNat 32 k.val) ↔ n = k := by decide

/-- A value kept where two experts' numbers agree as words. -/
theorem select_word (n k : Fin 64) (a : EReal) :
    Scalar.select (IntOp.cmpi .eq (BitVec.ofNat 32 n.val) (BitVec.ofNat 32 k.val)) a 0 = if n = k then a else 0 := by
  have h := word_eq n k
  by_cases e : n = k
  · subst e; simp [Scalar.select, IntOp.cmpi]
  · rw [if_neg e]
    have h' := mt h.mp e
    have hb : (BitVec.ofNat 32 n.val == BitVec.ofNat 32 k.val) = false := beq_eq_false_iff_ne.mpr h'
    simp [Scalar.select, IntOp.cmpi, hb]

/-- A row's sum over the experts, all but one of them masked out. -/
theorem sum_mask (n : Fin 64) (f : Fin 64 → EReal) (w : BitVec 32) (h : w = BitVec.ofNat 32 n.val) :
    ∑ k : Fin 64, Scalar.select (IntOp.cmpi .eq (BitVec.ofNat 32 k.val) w) (f k) 0 = f n := by
  subst h
  rw [Finset.sum_congr rfl fun k _ => select_word k n (f k), Finset.sum_ite_eq' Finset.univ n f, if_pos (Finset.mem_univ n)]

/-- The first gate of a row. -/
theorem pay5_apply (v : IVec S2048x1 32) (r : Fin 2048) (n : Fin 64) (h : v (ix2 r 0) = BitVec.ofNat 32 n.val) :
    k0_pay5 (F := Ideal) X R v (ix2 r 0) = prob X R r n := by
  rw [← pay2_apply]
  unfold k0_pay5 k0_pay3
  pointwise
  exact sum_mask n _ _ h

/-- The second gate of a row. -/
theorem pay6_apply (v : IVec S2048x1 32) (r : Fin 2048) (n : Fin 64) (h : v (ix2 r 0) = BitVec.ofNat 32 n.val) :
    k0_pay6 (F := Ideal) X R v (ix2 r 0) = prob X R r n := by
  rw [← pay2_apply]
  unfold k0_pay6 k0_pay4
  pointwise
  exact sum_mask n _ _ h

/-- Expert `e` of device `c` by its number among all. -/
def gx (c : Dev nD) (e : Fin 8) : Fin 64 := ⟨8 * c.val + e.val, by have := c.isLt; have := e.isLt; simp only [nD] at *; omega⟩

/-- The word the kernel compares a row's expert with. -/
theorem gx_word : ∀ (c : Dev nD) (e : Fin 8), Scalar.addi (Scalar.muli (dw c) 8#32) (BitVec.ofNat 32 e.val) = BitVec.ofNat 32 (gx c e).val := by
  decide

/-- A device's weights, row by row. -/
theorem wOf_apply (c : Dev nD) (Ix : Vec Ideal S2048x2 .i32) (r : Fin 2048) (e : Fin 8) (n n' : Fin 64)
    (h : Ix (ix2 r 0) = BitVec.ofNat 32 n.val) (h' : Ix (ix2 r 1) = BitVec.ofNat 32 n'.val) :
    wOf (F := Ideal) c X R Ix (ix2 r e) = wt n n' (share X R r n n' n) (share X R r n n' n') (gx c e) := by
  have h0 : idxCol (F := Ideal) Ix 0 (ix2 r 0) = BitVec.ofNat 32 n.val := by rw [← h]; exact congrArg Ix (pair_eq_ix2 r _)
  have h1 : idxCol (F := Ideal) Ix 1 (ix2 r 0) = BitVec.ofNat 32 n'.val := by rw [← h']; exact congrArg Ix (pair_eq_ix2 r _)
  have e0 := pay5_apply X R _ r n h0
  have e1 := pay6_apply X R _ r n' h1
  have e8 : k0_pay8 (F := Ideal) X R (idxCol Ix 0) (idxCol Ix 1) (ix2 r 0) = share X R r n n' n := by
    unfold k0_pay8 k0_pay7; pointwise; rw [e0, e1]; rfl
  have e9 : k0_pay9 (F := Ideal) X R (idxCol Ix 0) (idxCol Ix 1) (ix2 r 0) = share X R r n n' n' := by
    unfold k0_pay9 k0_pay7; pointwise; rw [e0, e1]; rfl
  unfold wOf wcol
  have hp : Shape.pair (d := ![2048, 1]) ((ix2 r e : S2048x8.Idx) 0) (0 : Fin 1) = ix2 r 0 := pair_eq_ix2 r 0
  have he : ((ix2 r e : S2048x8.Idx) 1).val = e.val := rfl
  rw [hp, he, gx_word]
  have h3 : k0_pay3 (F := Ideal) (idxCol Ix 0) (ix2 r 0) = BitVec.ofNat 32 n.val := by unfold k0_pay3; pointwise; exact h0
  have h4 : k0_pay4 (F := Ideal) (idxCol Ix 1) (ix2 r 0) = BitVec.ofNat 32 n'.val := by unfold k0_pay4; pointwise; exact h1
  generalize k0_pay3 (F := Ideal) (idxCol Ix 0) = a3 at *
  generalize k0_pay4 (F := Ideal) (idxCol Ix 1) = a4 at *
  generalize k0_pay8 (F := Ideal) X R (idxCol Ix 0) (idxCol Ix 1) = a8 at *
  generalize k0_pay9 (F := Ideal) X R (idxCol Ix 0) (idxCol Ix 1) = a9 at *
  pointwise
  rw [h3, h4, e8, e9]
  exact congrArg₂ _ (select_word n _ _) (select_word n' _ _)

end Cert.KernelIdeal.Run

end
-- ==== Proof.KernelIdeal.Partial.lean ====
/- A device's partial result at the reals: each entry the sum, over the device's experts, of the row times the expert's
   matrix under the row's weights. -/
module

public import proofs.«01_k».proof.Proof.KernelIdeal.Weights
public import Idealize.ShloMosaic.Lib.MatmulPlain
public import Idealize.ShloMosaic.Lib.Pointwise.IndexVar

@[expose] public section

set_option maxRecDepth 16384

noncomputable section

namespace Cert.KernelIdeal.Run

open Idealize.ShloMosaic Idealize.ShloMosaic.TcCoe Cert.KernelIdeal.Gen Cert.Moe

/-- One expert's share of a block, entry by entry. -/
theorem mmTerm_apply (n : ℕ) (h : BlkOk n) (xs : FVec Ideal ⟨2, ![n, 512]⟩ .f32) (ws : FVec Ideal ⟨2, ![n, 8]⟩ .f32) (e : Fin 8)
    (w : FVec Ideal S1x512x1024 .f32) (i : Fin n) (o : Fin 1024) :
    mmTerm (F := Ideal) n h xs ws e w (ix2 i o) = ∑ k : Fin 512, xs (ix2 i k) * ws (ix2 i e) * w (ix3 0 k o) := by
  unfold mmTerm
  pointwise
  refine Finset.sum_congr rfl fun k _ => ?_
  refine congrArg (fun j => xs (ix2 i k) * ws (ix2 j e) * w (ix3 0 k o)) ?_
  by_cases hn : n = 1
  · refine (dif_pos hn).trans (Fin.ext ?_)
    have := i.isLt
    show 0 = i.val
    omega
  · exact dif_neg hn

/-- An expert's matrix, entry by entry. -/
theorem exW_apply (E : Vec Ideal S8x512x1024 .f32) (e : Fin 8) (k : Fin 512) (o : Fin 1024) :
    exW (F := Ideal) E e (ix3 0 k o) = E (ix3 e k o) := by
  show E _ = E _
  congr 1
  funext a
  refine Fin.ext ?_
  match a with
  | ⟨0, _⟩ => simp [Memref.whole]
  | ⟨1, _⟩ => simp [Memref.whole]
  | ⟨2, _⟩ => simp [Memref.whole]

/-- A block's entry. -/
theorem blk_apply (n : ℕ) (h : BlkOk n) (xs : FVec Ideal ⟨2, ![n, 512]⟩ .f32) (ws : FVec Ideal ⟨2, ![n, 8]⟩ .f32)
    (w : Fin 8 → FVec Ideal S1x512x1024 .f32) (i : Fin n) (o : Fin 1024) :
    blk (F := Ideal) n h xs ws w (ix2 i o) = ∑ e : Fin 8, ∑ k : Fin 512, xs (ix2 i k) * ws (ix2 i e) * w e (ix3 0 k o) := by
  have hb : blk (F := Ideal) n h xs ws w (ix2 i o) = blk32 (F := Ideal) n h xs ws w (ix2 i o) := by
    unfold blk
    rw [shapeCast_id, shapeCast_id]
    rfl
  rw [hb, Fin.sum_univ_eight]
  unfold blk32
  show _ + _ + _ + _ + _ + _ + _ + _ = _
  simp only [mmTerm_apply]

/-- Rows of an array, entry by entry. -/
theorem rowsOf_apply {N : ℕ} (o n : ℕ) (Y : FVec Ideal ⟨2, ![2048, N]⟩ .f32) (i : Fin n) (k : Fin N) (r : Fin 2048) (h : o + i.val = r.val) :
    rowsOf (F := Ideal) (M := 2048) (e := .f32) o n Y (ix2 i k) = Y (ix2 r k) := by
  unfold rowsOf
  refine congrArg Y (Eq.trans (pair_eq_ix2 _ _) ?_)
  congr 1
  refine Fin.ext ?_
  show (o + i.val) % 2048 = r.val
  rw [h, Nat.mod_eq_of_lt r.isLt]

variable (m : (ℓ : Loc nD τ sig) → Buf (Elt Ideal) ℓ)

/-- A device's partial result, entry by entry. -/
theorem P_apply (c : Dev nD) (r : Fin 2048) (o : Fin 1024) :
    P m c (ix2 r o) = ∑ e : Fin 8, ∑ k : Fin 512, (xS m c (ix2 r k) : EReal) * wS m c (ix2 r e) * eS m c (ix3 e k o) := by
  obtain ⟨h1, h2⟩ := kd_mem (c := c) r.isLt
  rw [P_eq m c (qp r.val) (kd c r.val) (ix2 r o) h1 h2]
  generalize qp r.val = p at *
  generalize kd c r.val = t at *
  unfold place blkS
  have hi : ((ix2 r o : S2048x1024.Idx) 0).val = r.val := rfl
  have hlt : (r.val - ro c p t) % rz p t < rz p t := Nat.mod_lt _ (blkOk_rz p t).pos
  have hs : ro c p t + (r.val - ro c p t) % rz p t = r.val := by rw [Nat.mod_eq_of_lt (by omega)]; omega
  refine Eq.trans (congrArg _ (pair_eq_ix2 (⟨_, hlt⟩ : Fin (rz p t)) o)) ?_
  rw [blk_apply]
  refine Finset.sum_congr rfl fun e _ => Finset.sum_congr rfl fun k _ => ?_
  rw [rowsOf_apply _ _ _ _ _ r hs, rowsOf_apply _ _ _ _ _ r hs, exW_apply]

end Cert.KernelIdeal.Run

end
-- ==== Proof.RefVal.lean ====
/- The reference's result at an index is the row's mathematics (Proof/Spec.lean). -/
module

public import proofs.«01_k».proof.Proof.Spec
public import proofs.«01_k».proof.Proof.Gen.ReferenceIdeal.Run
public import Idealize.ShloMosaic.Lib.Tactic.CleanTypes
public import Idealize.ShloMosaic.Lib.IdealHost

@[expose] public section

set_option maxRecDepth 16384

noncomputable section

namespace Cert.Moe

open Idealize.ShloMosaic Idealize.ShloMosaic.TcCoe Idealize.SL.Sem
open Cert.ReferenceIdeal Cert.ReferenceIdeal.Gen Cert.ReferenceIdeal.Value

variable {α : Type}

/-- An expert's number as a word, read back. -/
theorem toInt_expert : ∀ n : Fin 64, min (BitVec.ofNat 32 n.val).toInt.toNat (64 - 1) = n.val := by decide

/-- The softmax read at each row's two experts: the entry the start index names, when it is an expert's number. -/
theorem gather_prob (x : S2048x64.Idx → α) (ix : IVec S2048x2x1 32) (r : Fin 2048) (s : Fin 2) (n : Fin 64)
    (h : ix (ix3 r s 0) = BitVec.ofNat 32 n.val) :
    Host.gather gather_S2048x64_S2048x2x1_S2048x2_n_1_0_0_1_2_11 x ix (ix2 r s) = x (ix2 r n) := by
  unfold Host.gather
  congr 1
  funext a
  refine Fin.ext ?_
  set d := gather_S2048x64_S2048x2x1_S2048x2_n_1_0_0_1_2_11 with hd
  show d.start (ix2 r s) ix a + d.batchCoord (ix2 r s) a + d.offCoord (ix2 r s) a = _
  rcases (show a = 0 ∨ a = 1 from by match a with | ⟨0, _⟩ => exact Or.inl rfl | ⟨1, _⟩ => exact Or.inr rfl) with rfl | rfl
  · rw [d.start_batching _ _ _ (by decide), d.offCoord_eq_zero _ _ (by decide), Nat.zero_add, Nat.add_zero]
    unfold GatherDims.batchCoord
    rw [dif_pos (by decide)]
    rfl
  · rw [d.batchCoord_eq_zero _ _ (by decide), d.offCoord_eq_zero _ _ (by decide), Nat.add_zero]
    unfold GatherDims.start
    rw [dif_pos (by decide)]
    refine Eq.trans (congrArg (fun w : BitVec 32 => min w.toInt.toNat (64 - 1)) ?_) (toInt_expert n)
    refine Eq.trans (congrArg ix ?_) h
    funext b
    refine Fin.ext ?_
    match b with
    | ⟨0, _⟩ => rfl
    | ⟨1, _⟩ => rfl
    | ⟨2, _⟩ => rfl

/-- The experts' matrices read at each row's expert. -/
theorem gather_expert (x : S64x512x1024.Idx → α) (ix : IVec S2048x1 32) (r : Fin 2048) (k : Fin 512) (o : Fin 1024) (n : Fin 64)
    (h : ix (ix2 r 0) = BitVec.ofNat 32 n.val) :
    Host.gather gather_S64x512x1024_S2048x1_S2048x512x1024_12_0_n_n_0_1_15121024 x ix (ix3 r k o) = x (ix3 n k o) := by
  unfold Host.gather
  congr 1
  funext a
  refine Fin.ext ?_
  set d := gather_S64x512x1024_S2048x1_S2048x512x1024_12_0_n_n_0_1_15121024 with hd
  show d.start (ix3 r k o) ix a + d.batchCoord (ix3 r k o) a + d.offCoord (ix3 r k o) a = _
  rw [d.batchCoord_eq_zero _ _ (by rw [hd]; exact List.not_mem_nil), Nat.add_zero]
  rcases (show a = 0 ∨ a = 1 ∨ a = 2 from by
    match a with | ⟨0, _⟩ => exact Or.inl rfl | ⟨1, _⟩ => exact Or.inr (Or.inl rfl) | ⟨2, _⟩ => exact Or.inr (Or.inr rfl)) with rfl | rfl | rfl
  · rw [d.offCoord_eq_zero _ _ (by decide), Nat.add_zero]
    unfold GatherDims.start
    rw [dif_pos (by decide)]
    refine Eq.trans (congrArg (fun w : BitVec 32 => min w.toInt.toNat (64 - 1)) ?_) (toInt_expert n)
    refine Eq.trans (congrArg ix ?_) h
    funext b
    refine Fin.ext ?_
    match b with
    | ⟨0, _⟩ => rfl
    | ⟨1, _⟩ => rfl
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

/-- A start index the reference computes from an expert's number: negative numbers wrapped, this one not. -/
theorem wrap_expert : ∀ n : Fin 64, Scalar.select (IntOp.cmpi .slt (BitVec.ofNat 32 n.val) 0#32)
    (IntOp.addi (BitVec.ofNat 32 n.val) 64#32) (BitVec.ofNat 32 n.val) = BitVec.ofNat 32 n.val := by decide
/-- An expert's number passes the reference's bounds. -/
theorem bounds_expert : ∀ n : Fin 64, IntOp.andi (IntOp.cmpi .sge (BitVec.ofNat 32 n.val) 0#32) (IntOp.cmpi .sle (BitVec.ofNat 32 n.val) 63#32) = 1#1 := by
  decide

theorem refOut_apply (m : (ℓ : Loc nD τ sig) → Buf (Elt Ideal) ℓ) (c : Dev nD) (r : Fin 2048) (o : Fin 1024) (n n' : Fin 64)
    (h : (m ((c.tc : Thread nD τ).loc main_arg2) : IVec S2048x2 32) (ix2 r 0) = BitVec.ofNat 32 n.val)
    (h' : (m ((c.tc : Thread nD τ).loc main_arg2) : IVec S2048x2 32) (ix2 r 1) = BitVec.ofNat 32 n'.val) :
    (res_main_v40 m c : S2048x1024.Idx → EReal) (ix2 r o) = out (m ((c.tc : Thread nD τ).loc main_arg0)) (m ((c.tc : Thread nD τ).loc main_arg1))
      (m ((c.tc : Thread nD τ).loc main_arg3)) r n n' o := by
  unfold res_main_v40
  generalize m ((c.tc : Thread nD τ).loc main_arg0) = X
  generalize m ((c.tc : Thread nD τ).loc main_arg1) = R
  generalize m ((c.tc : Thread nD τ).loc main_arg3) = E
  generalize m ((c.tc : Thread nD τ).loc main_arg2) = I at h h' ⊢
  clean_types
  have hg : ∀ (x : S2048x64.Idx → EReal) (s : Fin 2) (n : Fin 64), I (ix2 r s) = BitVec.ofNat 32 n.val →
      Host.gather gather_S2048x64_S2048x2x1_S2048x2_n_1_0_0_1_2_11 x
        (shapeCast S2048x2x1
          (select (cmpi CmpIPredicate.slt I (broadcastInDim S2048x2 ![] bcast_S_S2048x2 (constantI S_ 32 0#32)))
            (addi I (broadcastInDim S2048x2 ![] bcast_S_S2048x2 (constantI S_ 32 64#32))) I)
          shapeCasts_S2048x2_S2048x2x1) (ix2 r s) = x (ix2 r n) := fun x s n hs => gather_prob x _ r s n (by
    pointwise
    rw [hs]; exact wrap_expert n)
  have he : ∀ k : Fin 512, Host.gather gather_S64x512x1024_S2048x1_S2048x512x1024_12_0_n_n_0_1_15121024 E
      (broadcastInDim S2048x1 ![0] bcast_S2048_S2048x1_0
        (select (cmpi CmpIPredicate.slt (shapeCast S2048 (extractStridedSlice S2048x1 ![0, 0] I slices_S2048x2_S2048x1_0_0) shapeCasts_S2048x1_S2048)
            (broadcastInDim S2048 ![] bcast_S_S2048 (constantI S_ 32 0#32)))
          (addi (shapeCast S2048 (extractStridedSlice S2048x1 ![0, 0] I slices_S2048x2_S2048x1_0_0) shapeCasts_S2048x1_S2048)
            (broadcastInDim S2048 ![] bcast_S_S2048 (constantI S_ 32 64#32)))
          (shapeCast S2048 (extractStridedSlice S2048x1 ![0, 0] I slices_S2048x2_S2048x1_0_0) shapeCasts_S2048x1_S2048))) (ix3 r k o) = E (ix3 n k o) :=
    fun k => gather_expert E _ r k o n (by pointwise; rw [h]; exact wrap_expert n)
  have he' : ∀ k : Fin 512, Host.gather gather_S64x512x1024_S2048x1_S2048x512x1024_12_0_n_n_0_1_15121024 E
      (broadcastInDim S2048x1 ![0] bcast_S2048_S2048x1_0
        (select (cmpi CmpIPredicate.slt (shapeCast S2048 (extractStridedSlice S2048x1 ![0, 1] I slices_S2048x2_S2048x1_0_1) shapeCasts_S2048x1_S2048)
            (broadcastInDim S2048 ![] bcast_S_S2048 (constantI S_ 32 0#32)))
          (addi (shapeCast S2048 (extractStridedSlice S2048x1 ![0, 1] I slices_S2048x2_S2048x1_0_1) shapeCasts_S2048x1_S2048)
            (broadcastInDim S2048 ![] bcast_S_S2048 (constantI S_ 32 64#32)))
          (shapeCast S2048 (extractStridedSlice S2048x1 ![0, 1] I slices_S2048x2_S2048x1_0_1) shapeCasts_S2048x1_S2048))) (ix3 r k o) = E (ix3 n' k o) :=
    fun k => gather_expert E _ r k o n' (by pointwise; rw [h']; exact wrap_expert n')
  have hf : ∀ (s : Finset (Fin 1)), Finset.fold IntOp.andi (1#1) (fun _ => 1#1) s = 1#1 := fun s => by
    rw [Finset.fold_const _ (by decide)]; split <;> decide
  pointwise
  rw [h, h', wrap_expert, wrap_expert, bounds_expert, bounds_expert]
  simp only [he, he', hg _ 0 n h, hg _ 1 n' h']
  generalize hp : Host.divf (F := Ideal) (φ := .f32) (s := S2048x64) (Host.exp _) _ = p
  have hpr : ∀ n : Fin 64, p (ix2 r n) = prob X R r n := by
    intro n
    rw [← hp]
    pointwise
    rw [negInf]
    rfl
  rw [hpr, hpr]
  simp only [hf]
  rfl

end Cert.Moe

end
-- ==== Proof.KernelIdeal.Total.lean ====
/- The kernel's result is the reference's: the exchange adds the eight devices' partial results, those add up to the sum
   over all the experts, and of these only a row's two routed experts weigh. -/
module

public import proofs.«01_k».proof.Defs
public import proofs.«01_k».proof.Proof.KernelIdeal.Partial
public import proofs.«01_k».proof.Proof.RefVal
public import proofs.«01_k».proof.Proof.Routed

@[expose] public section

set_option maxRecDepth 16384

noncomputable section

namespace Cert.KernelIdeal.Run

open Idealize.ShloMosaic Idealize.ShloMosaic.TcCoe Cert.KernelIdeal.Gen Cert.Moe

/-! ## The exchange adds -/

/-- The devices whose partial results a device has added after the three halvings of a row's part, in the order of the sum. -/
def parts (c : Dev nD) (q : Fin 3) : List (Dev nD) :=
  [c, pa c q, pa c (q + 1), pa (pa c (q + 1)) q, pa c (q + 2), pa (pa c (q + 2)) q, pa (pa c (q + 2)) (q + 1), pa (pa (pa c (q + 2)) (q + 1)) q]

/-- They are all the devices. -/
theorem parts_perm : ∀ (c : Dev nD) (q : Fin 3), (parts c q).Perm (List.finRange 8) := by decide

/-- The sum over them is the sum over the devices. -/
theorem parts_sum (f : Dev nD → EReal) (c : Dev nD) (q : Fin 3) :
    ((f c + f (pa c q)) + (f (pa c (q + 1)) + f (pa (pa c (q + 1)) q)))
      + ((f (pa c (q + 2)) + f (pa (pa c (q + 2)) q)) + (f (pa (pa c (q + 2)) (q + 1)) + f (pa (pa (pa c (q + 2)) (q + 1)) q)))
      = ∑ d : Fin 8, f d := by
  rw [Fin.sum_univ_def, ← ((parts_perm c q).map f).sum_eq]
  simp only [parts, List.map_cons, List.map_nil, List.sum_cons, List.sum_nil, add_zero, add_assoc]

variable (m : (ℓ : Loc nD τ sig) → Buf (Elt Ideal) ℓ)

/-- One halving step adds the partner's value. -/
theorem wv_succ (s : ℕ) (c : Dev nD) (j : S2048x1024.Idx) :
    (wv m (s + 1) c j : EReal) = (wv m s c j : EReal) + wv m s (pa c (qp (j 0).val + ⟨s % 3, Nat.mod_lt _ (by decide)⟩)) j := by
  rw [wv]; rfl

/-- The kernel's result, entry by entry, is the sum of the devices' partial results. -/
theorem outS_sum (r : Fin 2048) (o : Fin 1024) : (outS m (ix2 r o) : EReal) = ∑ d : Fin 8, (P m d (ix2 r o) : EReal) := by
  have h : (outS m (ix2 r o) : EReal) = wv m 3 (own r.val) (ix2 r o) := by unfold outS k0_pay1 fin; rfl
  have q0 : ∀ q : Fin 3, q + ⟨0 % 3, Nat.mod_lt _ (by decide)⟩ = q := by decide
  have q1 : ∀ q : Fin 3, q + ⟨1 % 3, Nat.mod_lt _ (by decide)⟩ = q + 1 := by decide
  have q2 : ∀ q : Fin 3, q + ⟨2 % 3, Nat.mod_lt _ (by decide)⟩ = q + 2 := by decide
  have s0 : ∀ d, (wv m 1 d (ix2 r o) : EReal) = (P m d (ix2 r o) : EReal) + P m (pa d (qp r.val)) (ix2 r o) := by
    intro d
    refine (wv_succ m 0 d (ix2 r o)).trans ?_
    show (wv m 0 d (ix2 r o) : EReal) + wv m 0 (pa d (qp r.val + ⟨0 % 3, _⟩)) (ix2 r o) = _
    rw [q0, wv, wv]
  have s1 : ∀ d, (wv m 2 d (ix2 r o) : EReal) = (wv m 1 d (ix2 r o) : EReal) + wv m 1 (pa d (qp r.val + 1)) (ix2 r o) := by
    intro d
    refine (wv_succ m 1 d (ix2 r o)).trans ?_
    show (wv m 1 d (ix2 r o) : EReal) + wv m 1 (pa d (qp r.val + ⟨1 % 3, _⟩)) (ix2 r o) = _
    rw [q1]
  have s2 : ∀ d, (wv m 3 d (ix2 r o) : EReal) = (wv m 2 d (ix2 r o) : EReal) + wv m 2 (pa d (qp r.val + 2)) (ix2 r o) := by
    intro d
    refine (wv_succ m 2 d (ix2 r o)).trans ?_
    show (wv m 2 d (ix2 r o) : EReal) + wv m 2 (pa d (qp r.val + ⟨2 % 3, _⟩)) (ix2 r o) = _
    rw [q2]
  rw [h, s2, s1, s1, s0, s0, s0, s0]
  exact parts_sum (fun d => (P m d (ix2 r o) : EReal)) (own r.val) (qp r.val)

/-! ## The staged blocks are the arrays -/

theorem xS_eq (c : Dev nD) : xS m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem rS_eq (c : Dev nD) : rS m c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _
theorem iS_eq (c : Dev nD) : iS m c = m ((c : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) _
theorem eS_eq (c : Dev nD) : eS m c = m ((c : Thread nD τ).loc main_arg3) := by
  have hz : (fun a => (win0_3.index (0 : Fin 1)) a * main_arg3.ty.shape.size a) = fun _ => 0 := funext fun a => by fin_cases a <;> decide
  exact Memref.read_access_unit_zero (Elt Ideal) main_arg3 hz (fun a => by fin_cases a <;> decide) _

/-- Device `c`'s block of the experts' matrices. -/
theorem block_expert (E : (⟨3, ![64, 512, 1024]⟩ : Shape).Idx → EReal) (c : Dev nD) (e : Fin 8) (k : Fin 512) (o : Fin 1024) :
    Layout.block ⟨3, ![8, 512, 1024]⟩ ⟨3, ![64, 512, 1024]⟩ 0 8 c E (by decide) (ix3 e k o) = E (ix3 (gx c e) k o) := by
  rw [Layout.block_apply]
  congr 1
  funext a
  refine Fin.ext ?_
  rw [Layout.Tiles.idx_val]
  match a with
  | ⟨0, _⟩ => simp [gx, Nat.mul_comm]
  | ⟨1, _⟩ => rfl
  | ⟨2, _⟩ => rfl

/-! ## The two results -/

/-- The kernel's result, entry by entry, from the arrays the devices hold. -/
theorem outS_spec (X : FVec Ideal S2048x512 .f32) (R : FVec Ideal S512x64 .f32) (I : IVec S2048x2 32) (E : (⟨3, ![64, 512, 1024]⟩ : Shape).Idx → EReal)
    (ha : ∀ c : Dev nD, m ((c : Thread nD τ).loc main_arg0) = X ∧ m ((c : Thread nD τ).loc main_arg1) = R ∧ m ((c : Thread nD τ).loc main_arg2) = I
      ∧ m ((c : Thread nD τ).loc main_arg3) = Layout.block ⟨3, ![8, 512, 1024]⟩ ⟨3, ![64, 512, 1024]⟩ 0 8 c E)
    (hX : ∀ i, IsR (X i)) (hR : ∀ i, IsR (R i)) (r : Fin 2048) (o : Fin 1024) (n n' : Fin 64)
    (hn : I (ix2 r 0) = BitVec.ofNat 32 n.val) (hn' : I (ix2 r 1) = BitVec.ofNat 32 n'.val) :
    (outS m (ix2 r o) : EReal) = out X R E r n n' o := by
  refine (outS_sum m r o).trans ?_
  have hP : ∀ d : Fin 8, (P m d (ix2 r o) : EReal)
      = ∑ e : Fin 8, ∑ k : Fin 512, X (ix2 r k) * wt n n' (share X R r n n' n) (share X R r n n' n') (gx d e) * E (ix3 (gx d e) k o) := by
    intro d
    rw [P_apply]
    obtain ⟨b0, b1, b2, b3⟩ := ha d
    refine Finset.sum_congr rfl fun e _ => Finset.sum_congr rfl fun k _ => ?_
    unfold wS
    rw [xS_eq, rS_eq, iS_eq, eS_eq, b0, b1, b2, b3, wOf_apply X R d I r e n n' hn hn']
    exact congrArg _ (block_expert E d e k o)
  rw [Finset.sum_congr rfl fun d _ => hP d]
  exact (sum_devices (fun g : Fin 64 => ∑ k : Fin 512, X (ix2 r k) * wt n n' (share X R r n n' n) (share X R r n n' n') g * E (ix3 g k o))).trans
    (experts_sum E r o n n' _ _ (isPos_share hX hR r n n' n) (isPos_share hX hR r n n' n'))

/-- The kernel's result is the reference's. -/
theorem outS_eq (m' : (ℓ : Loc Cert.ReferenceIdeal.nD Cert.ReferenceIdeal.τ Cert.ReferenceIdeal.sig) → Buf (Elt Ideal) ℓ)
    (hp : Cert.Pre_KernelIdeal_routed_KernelIdeal m)
    (ha : ∀ c : Dev nD,
      m ((c : Thread nD τ).loc main_arg0) = m' (((0 : Dev Cert.ReferenceIdeal.nD).tc : Thread Cert.ReferenceIdeal.nD Cert.ReferenceIdeal.τ).loc Cert.ReferenceIdeal.main_arg0)
      ∧ m ((c : Thread nD τ).loc main_arg1) = m' (((0 : Dev Cert.ReferenceIdeal.nD).tc : Thread Cert.ReferenceIdeal.nD Cert.ReferenceIdeal.τ).loc Cert.ReferenceIdeal.main_arg1)
      ∧ m ((c : Thread nD τ).loc main_arg2) = m' (((0 : Dev Cert.ReferenceIdeal.nD).tc : Thread Cert.ReferenceIdeal.nD Cert.ReferenceIdeal.τ).loc Cert.ReferenceIdeal.main_arg2)
      ∧ m ((c : Thread nD τ).loc main_arg3) = Layout.block ⟨3, ![8, 512, 1024]⟩ ⟨3, ![64, 512, 1024]⟩ 0 8 c
          (m' (((0 : Dev Cert.ReferenceIdeal.nD).tc : Thread Cert.ReferenceIdeal.nD Cert.ReferenceIdeal.τ).loc Cert.ReferenceIdeal.main_arg3))) :
    outS m = Cert.ReferenceIdeal.Value.res_main_v40 m' 0 := by
  funext j
  obtain ⟨r, o, rfl⟩ : ∃ (r : Fin 2048) (o : Fin 1024), j = ix2 r o := ⟨j 0, j 1, eq_ix2 j⟩
  obtain ⟨hX, hR, hI⟩ := routed_of_fn _ _ _ _ (hp 0)
  obtain ⟨n, hn⟩ := hI r 0
  obtain ⟨n', hn'⟩ := hI r 1
  have a0 := ha 0
  rw [a0.1] at hX
  rw [a0.2.1] at hR
  rw [a0.2.2.1] at hn hn'
  exact (outS_spec m _ _ _ _ ha hX hR r o n n' hn hn').trans (refOut_apply m' 0 r o n n' hn hn').symm

end Cert.KernelIdeal.Run

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Routed
public import proofs.«01_k».proof.Proof.Kernel.Final
public import proofs.«01_k».proof.Proof.KernelIdeal.Final
public import proofs.«01_k».proof.Proof.KernelIdeal.Total
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel's run at the machine's floats leaves its arguments and every counter at zero. -/
theorem frame_kernel : Cert.quiescent_Kernel := by
  intro m ρ _
  exact (θ_run Cert.Kernel.defs _ _).mono (fun _ h => ⟨fun c => (h.1 c).2, h.2⟩) (Cert.Kernel.Run.run_final (F := Bits) m ρ)

/-- The kernel's run at the reals leaves its arguments and every counter at zero. -/
theorem frame_ideal : Cert.quiescent_KernelIdeal := by
  intro m ρ _
  exact (θ_run Cert.KernelIdeal.defs _ _).mono (fun _ h => ⟨fun c => (h.1 c).2, h.2⟩) (Cert.KernelIdeal.Run.run_final (F := Ideal) m ρ)

/-- The reference's run leaves its arguments and every counter at zero. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The kernel's result on every device is the reference's. -/
theorem value : Cert.algebraic_KernelIdeal_ReferenceIdeal_pre_routed_KernelIdeal := by
  intro m g m' g' hp ha
  refine ⟨Cert.ReferenceIdeal.Value.res_out0 m' 0, ?_, ?_⟩
  · exact (θ_run Cert.KernelIdeal.defs _ _).mono
      (fun _ h c => ⟨((h.1 c).1).trans (Cert.KernelIdeal.Run.outS_eq m m' hp ha), (h.1 c).2⟩)
      (Cert.KernelIdeal.Run.run_final (F := Ideal) m g)
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.Moe.factsK,
    Cert.Moe.factsR, frame_kernel, frame_ideal, fun m g _ => frame_ideal m g trivial,
    frame_reference, fun m g _ => frame_reference m g trivial, trivial, value⟩

end Cert.Proof

end
